-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_pixels [hPre_unit_pixels : Cert.Pre_unit_pixels.Facts] (m : (ℓ : Loc Cert.KernelIdeal.nD Cert.KernelIdeal.τ Cert.KernelIdeal.sig) → Buf (Elt Ideal) ℓ) : Prop :=
  ∀ c : Dev Cert.KernelIdeal.nD,
    (Cert.Pre_unit_pixels.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_pixels [hPre_unit_pixels : Cert.Pre_unit_pixels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_pixels.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit_pixels [hKernelIdeal : Cert.KernelIdeal.Facts] [hPre_unit_pixels : Cert.Pre_unit_pixels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_pixels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit_pixels [hReferenceIdeal : Cert.ReferenceIdeal.Facts] [hPre_unit_pixels : Cert.Pre_unit_pixels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_pixels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_n" .f32 0x37A7EEF2#32 ((1 / 49952 : ℝ) : EReal)
  ∧ IdealRules.named_const.Statement Cert.KernelIdeal.κ "inv_d" .f32 0x37A8AFBB#32 ((1 / 49729 : ℝ) : EReal)
  ∧ IdealRules.named_const.Statement Cert.KernelIdeal.κ "inv_n2" .f32 0x2FDC533D#32 ((1 / 2495202304 : ℝ) : EReal)
  ∧ IdealRules.named_const.Statement Cert.KernelIdeal.κ "inv_d2" .f32 0x2FDE4E3B#32 ((1 / 2472973441 : ℝ) : EReal)

def algebraic_KernelIdeal_ReferenceIdeal_pre_unit_pixels [hKernelIdeal : Cert.KernelIdeal.Facts] [hReferenceIdeal : Cert.ReferenceIdeal.Facts] [hPre_unit_pixels : Cert.Pre_unit_pixels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_pixels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unit_pixels : Cert.Pre_unit_pixels.Facts),
    quiescent_Kernel (hKernel := hKernel)
    ∧ quiescent_KernelIdeal (hKernelIdeal := hKernelIdeal)
    ∧ quiescent_KernelIdeal_pre_unit_pixels (hKernelIdeal := hKernelIdeal) (hPre_unit_pixels := hPre_unit_pixels)
    ∧ quiescent_ReferenceIdeal (hReferenceIdeal := hReferenceIdeal)
    ∧ quiescent_ReferenceIdeal_pre_unit_pixels (hReferenceIdeal := hReferenceIdeal) (hPre_unit_pixels := hPre_unit_pixels)
    ∧ preserves_Kernel_KernelIdeal
    ∧ algebraic_KernelIdeal_ReferenceIdeal_pre_unit_pixels (hKernelIdeal := hKernelIdeal) (hReferenceIdeal := hReferenceIdeal) (hPre_unit_pixels := hPre_unit_pixels)
-- ==== Pre_unit_pixels.lean ====
abbrev S16x3x16x224x224 : Shape := ⟨5, ![16, 3, 16, 224, 224]⟩
abbrev S_ : Shape := ⟨0, ![]⟩

class Facts : Prop where
  bcast_S_S16x3x16x224x224 : S_.BroadcastsInDim S16x3x16x224x224 (![] : Fin 0 → Fin S16x3x16x224x224.rank)

variable [Facts]

def fn {F : FTy → Type} [FloatOps F] (main_arg0 : FVec F S16x3x16x224x224 .f32) : IVec S16x3x16x224x224 1 :=
  let main_cst : FVec F S_ .f32 := constant S_ .f32 0x00000000#32
  let main_v0 : FVec F S16x3x16x224x224 .f32 := broadcastInDim S16x3x16x224x224 ![] bcast_S_S16x3x16x224x224 main_cst
  let main_v1 : IVec S16x3x16x224x224 1 := cmpf .oge main_arg0 main_v0
  let main_cst_0 : FVec F S_ .f32 := constant S_ .f32 0x3F800000#32
  let main_v2 : FVec F S16x3x16x224x224 .f32 := broadcastInDim S16x3x16x224x224 ![] bcast_S_S16x3x16x224x224 main_cst_0
  let main_v3 : IVec S16x3x16x224x224 1 := cmpf .ole main_arg0 main_v2
  let main_v4 : IVec S16x3x16x224x224 1 := andi main_v1 main_v3
  main_v4
-- ==== Kernel.lean ====
abbrev S16x3x16x224x224 : Shape := ⟨5, ![16, 3, 16, 224, 224]⟩
abbrev S16x3x16x28x1792 : Shape := ⟨5, ![16, 3, 16, 28, 1792]⟩
abbrev S256x1x128 : Shape := ⟨3, ![256, 1, 128]⟩
abbrev S1x3x1x28x1792 : Shape := ⟨5, ![1, 3, 1, 28, 1792]⟩
abbrev S1x1x128 : Shape := ⟨3, ![1, 1, 128]⟩
abbrev S36x1792 : Shape := ⟨2, ![36, 1792]⟩
abbrev S4x256x256 : Shape := ⟨3, ![4, 256, 256]⟩
abbrev S3x28x1792 : Shape := ⟨3, ![3, 28, 1792]⟩
abbrev S1x28x1792 : Shape := ⟨3, ![1, 28, 1792]⟩
abbrev S28x1792 : Shape := ⟨2, ![28, 1792]⟩
abbrev S1 : Shape := ⟨1, ![1]⟩
abbrev S1x1x1 : Shape := ⟨3, ![1, 1, 1]⟩
abbrev S8x1792 : Shape := ⟨2, ![8, 1792]⟩
abbrev S256x1792 : Shape := ⟨2, ![256, 1792]⟩
abbrev S1x1792 : Shape := ⟨2, ![1, 1792]⟩
abbrev S1x1791 : Shape := ⟨2, ![1, 1791]⟩
abbrev S1x1 : Shape := ⟨2, ![1, 1]⟩
abbrev S1x1568 : Shape := ⟨2, ![1, 1568]⟩
abbrev S1x224 : Shape := ⟨2, ![1, 224]⟩
abbrev S1x1567 : Shape := ⟨2, ![1, 1567]⟩
abbrev S1x225 : Shape := ⟨2, ![1, 225]⟩
abbrev S1x1569 : Shape := ⟨2, ![1, 1569]⟩
abbrev S1x223 : Shape := ⟨2, ![1, 223]⟩
abbrev S1x256x256 : Shape := ⟨3, ![1, 256, 256]⟩
abbrev S256x256 : Shape := ⟨2, ![256, 256]⟩
abbrev S256x1x6 : Shape := ⟨3, ![256, 1, 6]⟩
abbrev S256x6 : Shape := ⟨2, ![256, 6]⟩
abbrev S16x96 : Shape := ⟨2, ![16, 96]⟩

abbrev nBuf : Space → Nat
  | .hbm => 6
  | .vmem => 8
  | .smem => 0
  | _ => 0

abbrev bufTy : (tb : Table) → Fin (tcTables nBuf tb) → BufTy
  | .hbm, ⟨0, _⟩ => ⟨S16x3x16x224x224, .f32⟩
  | .hbm, ⟨1, _⟩ => ⟨S16x3x16x28x1792, .f32⟩
  | .hbm, ⟨2, _⟩ => ⟨S256x1x128, .f32⟩
  | .hbm, ⟨3, _⟩ => ⟨S256x1x6, .f32⟩
  | .hbm, ⟨4, _⟩ => ⟨S256x6, .f32⟩
  | .hbm, ⟨5, _⟩ => ⟨S16x96, .f32⟩
  | .local _ .vmem, ⟨0, _⟩ => ⟨S1x3x1x28x1792, .f32⟩
  | .local _ .vmem, ⟨1, _⟩ => ⟨S1x3x1x28x1792, .f32⟩
  | .local _ .vmem, ⟨2, _⟩ => ⟨S1x1x128, .f32⟩
  | .local _ .vmem, ⟨3, _⟩ => ⟨S1x1x128, .f32⟩
  | .local _ .vmem, ⟨4, _⟩ => ⟨S36x1792, .bf16⟩
  | .local _ .vmem, ⟨5, _⟩ => ⟨S36x1792, .bf16⟩
  | .local _ .vmem, ⟨6, _⟩ => ⟨S36x1792, .bf16⟩
  | .local _ .vmem, ⟨7, _⟩ => ⟨S4x256x256, .f32⟩
  | _, _ => ⟨S16x3x16x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1x28x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "inv_d" => some ((1 / 49729 : ℝ) : EReal)
  | "inv_d2" => some ((1 / 2472973441 : ℝ) : EReal)
  | "inv_n" => some ((1 / 49952 : ℝ) : EReal)
  | "inv_n2" => some ((1 / 2495202304 : ℝ) : EReal)
  | _ => none
-- ==== ReferenceIdeal.lean ====
abbrev S16x3x16x224x224 : Shape := ⟨5, ![16, 3, 16, 224, 224]⟩
abbrev S_ : Shape := ⟨0, ![]⟩
abbrev S16x16x224x224 : Shape := ⟨4, ![16, 16, 224, 224]⟩
abbrev S256x224x224 : Shape := ⟨3, ![256, 224, 224]⟩
abbrev S256 : Shape := ⟨1, ![256]⟩
abbrev S256x1x1 : Shape := ⟨3, ![256, 1, 1]⟩
abbrev S256x1 : Shape := ⟨2, ![256, 1]⟩
abbrev S1x256 : Shape := ⟨2, ![1, 256]⟩
abbrev S256x256 : Shape := ⟨2, ![256, 256]⟩
abbrev S256x224x223 : Shape := ⟨3, ![256, 224, 223]⟩
abbrev S256x49952 : Shape := ⟨2, ![256, 49952]⟩
abbrev S12787712 : Shape := ⟨1, ![12787712]⟩
abbrev S16777216 : Shape := ⟨1, ![16777216]⟩
abbrev S12787712x1 : Shape := ⟨2, ![12787712, 1]⟩
abbrev S256x256x256 : Shape := ⟨3, ![256, 256, 256]⟩
abbrev S256x223x223 : Shape := ⟨3, ![256, 223, 223]⟩
abbrev S256x49729 : Shape := ⟨2, ![256, 49729]⟩
abbrev S12730624 : Shape := ⟨1, ![12730624]⟩
abbrev S12730624x1 : Shape := ⟨2, ![12730624, 1]⟩
abbrev S256x223x224 : Shape := ⟨3, ![256, 223, 224]⟩
abbrev S4x256 : Shape := ⟨2, ![4, 256]⟩
abbrev S256x6 : Shape := ⟨2, ![256, 6]⟩
abbrev S16x96 : Shape := ⟨2, ![16, 96]⟩

abbrev nBuf : Space → Nat
  | .hbm => 225
  | .vmem => 0
  | .smem => 0
  | _ => 0

abbrev hbmTy0_0 (i : Nat) : BufTy := match i % 128 with
  | 0 => ⟨S16x3x16x224x224, .f32⟩
  | 1 => ⟨S_, .f32⟩
  | 2 => ⟨S16x16x224x224, .f32⟩
  | 3 => ⟨S_, .f32⟩
  | 4 => ⟨S16x16x224x224, .f32⟩
  | 5 => ⟨S16x16x224x224, .f32⟩
  | 6 => ⟨S_, .f32⟩
  | 7 => ⟨S16x16x224x224, .f32⟩
  | 8 => ⟨S16x16x224x224, .f32⟩
  | 9 => ⟨S16x16x224x224, .f32⟩
  | 10 => ⟨S16x16x224x224, .i32⟩
  | 11 => ⟨S256x224x224, .i32⟩
  | 12 => ⟨S256x224x224, .f32⟩
  | 13 => ⟨S_, .i32⟩
  | 14 => ⟨S_, .f32⟩
  | 15 => ⟨S256, .f32⟩
  | 16 => ⟨S256x1x1, .f32⟩
  | 17 => ⟨S_, .f32⟩
  | 18 => ⟨S256x1x1, .f32⟩
  | 19 => ⟨S256x1x1, .f32⟩
  | 20 => ⟨S256x224x224, .f32⟩
  | 21 => ⟨S256x224x224, .f32⟩
  | 22 => ⟨S256x224x224, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S256, .f32⟩
  | 37 => ⟨S256, .f32⟩
  | 38 => ⟨S256x1, .f32⟩
  | 39 => ⟨S1x256, .f32⟩
  | 40 => ⟨S256x256, .f32⟩
  | 41 => ⟨S256x256, .f32⟩
  | 42 => ⟨S256x256, .f32⟩
  | 43 => ⟨S256x256, .f32⟩
  | 44 => ⟨S256x256, .f32⟩
  | 45 => ⟨S_, .f32⟩
  | 46 => ⟨S256x256, .f32⟩
  | 47 => ⟨S256x256, .f32⟩
  | 48 => ⟨S_, .f32⟩
  | 49 => ⟨S256x256, .f32⟩
  | 50 => ⟨S256x256, .f32⟩
  | 51 => ⟨S256, .i32⟩
  | 52 => ⟨S256x1, .i32⟩
  | 53 => ⟨S_, .i32⟩
  | 54 => ⟨S256x1, .i32⟩
  | 55 => ⟨S256x1, .i32⟩
  | 56 => ⟨S256x224x223, .i32⟩
  | 57 => ⟨S256x224x223, .i32⟩
  | 58 => ⟨S_, .i32⟩
  | 59 => ⟨S256x224x223, .i32⟩
  | 60 => ⟨S256x224x223, .i32⟩
  | 61 => ⟨S256x224x223, .i32⟩
  | 62 => ⟨S256x49952, .i32⟩
  | 63 => ⟨S256x49952, .i32⟩
  | 64 => ⟨S256x49952, .i32⟩
  | 65 => ⟨S12787712, .i32⟩
  | 66 => ⟨S_, .f32⟩
  | 67 => ⟨S12787712, .f32⟩
  | 68 => ⟨S_, .f32⟩
  | 69 => ⟨S16777216, .f32⟩
  | 70 => ⟨S12787712x1, .i32⟩
  | 71 => ⟨S16777216, .f32⟩
  | 72 => ⟨S256x256x256, .f32⟩
  | 73 => ⟨S256x256x256, .f32⟩
  | 74 => ⟨S256x256x256, .f32⟩
  | 75 => ⟨S_, .f32⟩
  | 76 => ⟨S256, .f32⟩
  | 77 => ⟨S256x1x1, .f32⟩
  | 78 => ⟨S256x256x256, .f32⟩
  | 79 => ⟨S256x256x256, .f32⟩
  | 80 => ⟨S256, .f32⟩
  | 81 => ⟨S256, .f32⟩
  | 82 => ⟨S256, .f32⟩
  | 83 => ⟨S256x256x256, .f32⟩
  | 84 => ⟨S_, .f32⟩
  | 85 => ⟨S256, .f32⟩
  | 86 => ⟨S256x223x223, .i32⟩
  | 87 => ⟨S256x223x223, .i32⟩
  | 88 => ⟨S_, .i32⟩
  | 89 => ⟨S256x223x223, .i32⟩
  | 90 => ⟨S256x223x223, .i32⟩
  | 91 => ⟨S256x223x223, .i32⟩
  | 92 => ⟨S256x49729, .i32⟩
  | 93 => ⟨S256x49729, .i32⟩
  | 94 => ⟨S256x49729, .i32⟩
  | 95 => ⟨S12730624, .i32⟩
  | 96 => ⟨S_, .f32⟩
  | 97 => ⟨S12730624, .f32⟩
  | 98 => ⟨S_, .f32⟩
  | 99 => ⟨S16777216, .f32⟩
  | 100 => ⟨S12730624x1, .i32⟩
  | 101 => ⟨S16777216, .f32⟩
  | 102 => ⟨S256x256x256, .f32⟩
  | 103 => ⟨S256x256x256, .f32⟩
  | 104 => ⟨S256x256x256, .f32⟩
  | 105 => ⟨S_, .f32⟩
  | 106 => ⟨S256, .f32⟩
  | 107 => ⟨S256x1x1, .f32⟩
  | 108 => ⟨S256x256x256, .f32⟩
  | 109 => ⟨S256x256x256, .f32⟩
  | 110 => ⟨S256, .f32⟩
  | 111 => ⟨S256, .f32⟩
  | 112 => ⟨S256, .f32⟩
  | 113 => ⟨S256x256x256, .f32⟩
  | 114 => ⟨S_, .f32⟩
  | 115 => ⟨S256, .f32⟩
  | 116 => ⟨S256x223x224, .i32⟩
  | 117 => ⟨S256x223x224, .i32⟩
  | 118 => ⟨S_, .i32⟩
  | 119 => ⟨S256x223x224, .i32⟩
  | 120 => ⟨S256x223x224, .i32⟩
  | 121 => ⟨S256x223x224, .i32⟩
  | 122 => ⟨S256x49952, .i32⟩
  | 123 => ⟨S256x49952, .i32⟩
  | 124 => ⟨S256x49952, .i32⟩
  | 125 => ⟨S12787712, .i32⟩
  | 126 => ⟨S_, .f32⟩
  | 127 => ⟨S12787712, .f32⟩
  | _ => ⟨S16x3x16x224x224, .f32⟩

abbrev hbmTy0_1 (i : Nat) : BufTy := match i % 128 with
  | 0 => ⟨S_, .f32⟩
  | 1 => ⟨S16777216, .f32⟩
  | 2 => ⟨S12787712x1, .i32⟩
  | 3 => ⟨S16777216, .f32⟩
  | 4 => ⟨S256x256x256, .f32⟩
  | 5 => ⟨S256x256x256, .f32⟩
  | 6 => ⟨S256x256x256, .f32⟩
  | 7 => ⟨S_, .f32⟩
  | 8 => ⟨S256, .f32⟩
  | 9 => ⟨S256x1x1, .f32⟩
  | 10 => ⟨S256x256x256, .f32⟩
  | 11 => ⟨S256x256x256, .f32⟩
  | 12 => ⟨S256, .f32⟩
  | 13 => ⟨S256, .f32⟩
  | 14 => ⟨S256, .f32⟩
  | 15 => ⟨S256x256x256, .f32⟩
  | 16 => ⟨S_, .f32⟩
  | 17 => ⟨S256, .f32⟩
  | 18 => ⟨S256x223x223, .i32⟩
  | 19 => ⟨S256x223x223, .i32⟩
  | 20 => ⟨S_, .i32⟩
  | 21 => ⟨S256x223x223, .i32⟩
  | 22 => ⟨S256x223x223, .i32⟩
  | 23 => ⟨S256x223x223, .i32⟩
  | 24 => ⟨S256x49729, .i32⟩
  | 25 => ⟨S256x49729, .i32⟩
  | 26 => ⟨S256x49729, .i32⟩
  | 27 => ⟨S12730624, .i32⟩
  | 28 => ⟨S_, .f32⟩
  | 29 => ⟨S12730624, .f32⟩
  | 30 => ⟨S_, .f32⟩
  | 31 => ⟨S16777216, .f32⟩
  | 32 => ⟨S12730624x1, .i32⟩
  | 33 => ⟨S16777216, .f32⟩
  | 34 => ⟨S256x256x256, .f32⟩
  | 35 => ⟨S256x256x256, .f32⟩
  | 36 => ⟨S256x256x256, .f32⟩
  | 37 => ⟨S_, .f32⟩
  | 38 => ⟨S256, .f32⟩
  | 39 => ⟨S256x1x1, .f32⟩
  | 40 => ⟨S256x256x256, .f32⟩
  | 41 => ⟨S256x256x256, .f32⟩
  | 42 => ⟨S256, .f32⟩
  | 43 => ⟨S256, .f32⟩
  | 44 => ⟨S256, .f32⟩
  | 45 => ⟨S256x256x256, .f32⟩
  | 46 => ⟨S_, .f32⟩
  | 47 => ⟨S256, .f32⟩
  | 48 => ⟨S1x256, .f32⟩
  | 49 => ⟨S1x256, .f32⟩
  | 50 => ⟨S1x256, .f32⟩
  | 51 => ⟨S1x256, .f32⟩
  | 52 => ⟨S4x256, .f32⟩
  | 53 => ⟨S_, .f32⟩
  | 54 => ⟨S256, .f32⟩
  | 55 => ⟨S_, .f32⟩
  | 56 => ⟨S256, .f32⟩
  | 57 => ⟨S256, .f32⟩
  | 58 => ⟨S1x256, .f32⟩
  | 59 => ⟨S1x256, .f32⟩
  | 60 => ⟨S1x256, .f32⟩
  | 61 => ⟨S1x256, .f32⟩
  | 62 => ⟨S4x256, .f32⟩
  | 63 => ⟨S_, .f32⟩
  | 64 => ⟨S256, .f32⟩
  | 65 => ⟨S_, .f32⟩
  | 66 => ⟨S256, .f32⟩
  | 67 => ⟨S256, .f32⟩
  | 68 => ⟨S1x256, .f32⟩
  | 69 => ⟨S1x256, .f32⟩
  | 70 => ⟨S1x256, .f32⟩
  | 71 => ⟨S1x256, .f32⟩
  | 72 => ⟨S4x256, .f32⟩
  | 73 => ⟨S_, .f32⟩
  | 74 => ⟨S256, .f32⟩
  | 75 => ⟨S_, .f32⟩
  | 76 => ⟨S256, .f32⟩
  | 77 => ⟨S256, .f32⟩
  | 78 => ⟨S1x256, .f32⟩
  | 79 => ⟨S1x256, .f32⟩
  | 80 => ⟨S1x256, .f32⟩
  | 81 => ⟨S1x256, .f32⟩
  | 82 => ⟨S4x256, .f32⟩
  | 83 => ⟨S_, .f32⟩
  | 84 => ⟨S256, .f32⟩
  | 85 => ⟨S_, .f32⟩
  | 86 => ⟨S256, .f32⟩
  | 87 => ⟨S256, .f32⟩
  | 88 => ⟨S256, .f32⟩
  | 89 => ⟨S256x1, .f32⟩
  | 90 => ⟨S256x1, .f32⟩
  | 91 => ⟨S256x1, .f32⟩
  | 92 => ⟨S256x1, .f32⟩
  | 93 => ⟨S256x1, .f32⟩
  | 94 => ⟨S256x1, .f32⟩
  | 95 => ⟨S256x6, .f32⟩
  | 96 => ⟨S16x96, .f32⟩
  | _ => ⟨S16x3x16x224x224, .f32⟩

abbrev hbmTy (i : Nat) : BufTy := match i / 128 with
  | 0 => hbmTy0_0 i
  | 1 => hbmTy0_1 i
  | _ => ⟨S16x3x16x224x224, .f32⟩

abbrev bufTy : (tb : Table) → Fin (tcTables nBuf tb) → BufTy
  | .hbm, ⟨i, _⟩ => hbmTy i
  | _, _ => ⟨S16x3x16x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_cst_0 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_cst_1 : Ref sig .tc := ⟨.hbm, 24, rfl⟩
abbrev main_call0_call0_v8 : Ref sig .tc := ⟨.hbm, 25, rfl⟩
abbrev main_call0_call0_cst_2 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_call0_cst_3 : Ref sig .tc := ⟨.hbm, 30, rfl⟩
abbrev main_call0_call0_v12 : Ref sig .tc := ⟨.hbm, 31, rfl⟩
abbrev main_call0_call0_cst_4 : Ref sig .tc := ⟨.hbm, 32, rfl⟩
abbrev main_call0_call0_call0_v0 : Ref sig .tc := ⟨.hbm, 33, rfl⟩
abbrev main_call0_call0_call0_v1 : Ref sig .tc := ⟨.hbm, 34, rfl⟩
abbrev main_call0_v0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_9 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_10 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_11 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_13 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_14 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_15 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_16 : Ref sig .tc := ⟨.hbm, 126, rfl⟩
abbrev main_v85 : Ref sig .tc := ⟨.hbm, 127, rfl⟩
abbrev main_cst_17 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_cst_18 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_19 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_c_20 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_21 : Ref sig .tc := ⟨.hbm, 156, rfl⟩
abbrev main_v110 : Ref sig .tc := ⟨.hbm, 157, rfl⟩
abbrev main_cst_22 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_23 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_24 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_25 : Ref sig .tc := ⟨.hbm, 181, rfl⟩
abbrev main_v131 : Ref sig .tc := ⟨.hbm, 182, rfl⟩
abbrev main_cst_26 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_27 : Ref sig .tc := ⟨.hbm, 191, rfl⟩
abbrev main_v139 : Ref sig .tc := ⟨.hbm, 192, rfl⟩
abbrev main_cst_28 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_29 : Ref sig .tc := ⟨.hbm, 201, rfl⟩
abbrev main_v147 : Ref sig .tc := ⟨.hbm, 202, rfl⟩
abbrev main_cst_30 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_31 : Ref sig .tc := ⟨.hbm, 211, rfl⟩
abbrev main_v155 : Ref sig .tc := ⟨.hbm, 212, rfl⟩
abbrev main_cst_32 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩

abbrev nD : Nat := 1
abbrev τ : Topo := Topo.v7x

variable {F : FTy → Type} [FloatOps F]
-- ==== Proof.KernelBody.lean ====
module

public import proofs.«01_k».proof.Proof.Gen.KernelIdeal.Frame
public import Idealize.ShloMosaic.Lib.Pipeline.ValueKit
public import Idealize.ShloMosaic.Lib.ValueIdx
public import Idealize.ShloMosaic.Lib.Pipeline.ReadBack

@[expose] public section

set_option maxRecDepth 16384

noncomputable section

namespace Cert.Glcm

open Idealize.ShloMosaic Idealize.ShloMosaic.TcCoe
open Cert.KernelIdeal Cert.KernelIdeal.Gen

variable {F : FTy → Type} [FloatOps F] [Named F]

/-- The cell at row `r` and lane `c` of a padded buffer: the stored frame `w` on the first 28 rows, `p` on the
    eight rows below it. -/
def cellP (p : FVec F S8x1792 .bf16) (w : FVec F S28x1792 .bf16) (r c : ℕ) : F .bf16 :=
  if h : r < 28 ∧ c < 1792 then w (ix2 ⟨r, h.1⟩ ⟨c, h.2⟩)
  else if h : r - 28 < 8 ∧ c < 1792 then p (ix2 ⟨r - 28, h.1⟩ ⟨c, h.2⟩) else Scalar.ofBits .bf16 0xBF80#16

/-- A load of part of a row of a gray buffer, after the store of the frame and then of the padding rows: the
    cells of that part. -/
theorem readCov_row {sig : RefSig} {κ : Kind} {sp : Space} (v : View sig κ sp S36x1792 .bf16)
    {i8 : ∀ a, (![28, 0] : Fin 2 → ℕ) a + (![8, 1792] : Fin 2 → ℕ) a ≤ S36x1792.size a}
    {i28 : ∀ a, (![0, 0] : Fin 2 → ℕ) a + (![28, 1792] : Fin 2 → ℕ) a ≤ S36x1792.size a}
    (p : FVec F S8x1792 .bf16) (w : FVec F S28x1792 .bf16)
    (off : Fin 2 → ℕ) (size : Fin 2 → ℕ) (inb : ∀ a, off a + size a ≤ S36x1792.size a) :
    v.readCov (Val := Elt F) [⟨Rect.unit (s := S36x1792) ![28, 0] (no_index ![8, 1792]) i8, p⟩,
        ⟨Rect.unit (s := S36x1792) ![0, 0] (no_index ![28, 1792]) i28, w⟩] (Rect.unit (s := S36x1792) off size inb).toLoadRect
      = fun j => cellP p w (off 0 + (j 0).val) (off 1 + (j 1).val) := by
  rw [View.readCov_eq_canon']
  funext j
  have hj0 : off 0 + (j 0).val < 36 := lt_of_lt_of_le (Nat.add_lt_add_left (j 0).isLt _) (inb 0)
  have hj1 : off 1 + (j 1).val < 1792 := lt_of_lt_of_le (Nat.add_lt_add_left (j 1).isLt _) (inb 1)
  have e0 : ∀ a, (((Rect.unit (s := S36x1792) off size inb).toLoadRect.idx j) a).val = off a + (j a).val := fun a => by
    show off a + 1 * (j a).val = _
    rw [Nat.one_mul]
  generalize ((Rect.unit (s := S36x1792) off size inb).toLoadRect.idx j) = y at e0
  have e00 := e0 0
  have e01 := e0 1
  by_cases h : off 0 + (j 0).val < 28
  · rw [View.canon_cons_of_not_mem _ _ (by
      rw [Rect.mem_set_unit]; intro hm; have := (hm 0).1; simp at this; omega)]
    unfold cellP
    rw [dif_pos ⟨h, hj1⟩]
    have e : y = (Rect.unit (s := S36x1792) ![0, 0] ![28, 1792] i28).emb (ix2 ⟨off 0 + (j 0).val, h⟩ ⟨off 1 + (j 1).val, hj1⟩) := by
      funext a
      apply Fin.ext
      match a with
      | ⟨0, _⟩ => exact e00.trans (show off 0 + (j 0).val = 0 + 1 * (off 0 + (j 0).val) by omega)
      | ⟨1, _⟩ => exact e01.trans (show off 1 + (j 1).val = 0 + 1 * (off 1 + (j 1).val) by omega)
    rw [e, View.canon_cons_emb]
  · unfold cellP
    have h8 : off 0 + (j 0).val - 28 < 8 := by clear e00 e01 e0; omega
    rw [dif_neg (fun hh => h hh.1), dif_pos ⟨h8, hj1⟩]
    have e : y = (Rect.unit (s := S36x1792) ![28, 0] ![8, 1792] i8).emb (ix2 ⟨off 0 + (j 0).val - 28, h8⟩ ⟨off 1 + (j 1).val, hj1⟩) := by
      funext a
      apply Fin.ext
      match a with
      | ⟨0, _⟩ => exact e00.trans (show off 0 + (j 0).val = 28 + 1 * (off 0 + (j 0).val - 28) by omega)
      | ⟨1, _⟩ => exact e01.trans (show off 1 + (j 1).val = 0 + 1 * (off 1 + (j 1).val) by omega)
    rw [e, View.canon_cons_emb]

/-- The cell of a gray buffer whose padding rows hold −1. -/
def cell (w : FVec F S28x1792 .bf16) (r c : ℕ) : F .bf16 := cellP (k0_pay12 k0_pay10) w r c

/-- A load of part of one of the frame's own rows: the padding does not reach it. -/
theorem readCov_frame {sig : RefSig} {κ : Kind} {sp : Space} (v : View sig κ sp S36x1792 .bf16)
    {i28 : ∀ a, (![0, 0] : Fin 2 → ℕ) a + (![28, 1792] : Fin 2 → ℕ) a ≤ S36x1792.size a}
    (w : FVec F S28x1792 .bf16)
    (off : Fin 2 → ℕ) (size : Fin 2 → ℕ) (inb : ∀ a, off a + size a ≤ S36x1792.size a) (h28 : off 0 + size 0 ≤ 28) :
    v.readCov (Val := Elt F) [⟨Rect.unit (s := S36x1792) ![0, 0] (no_index ![28, 1792]) i28, w⟩]
        (Rect.unit (s := S36x1792) off size inb).toLoadRect
      = fun j => cell w (off 0 + (j 0).val) (off 1 + (j 1).val) := by
  rw [View.readCov_eq_canon']
  funext j
  have h : off 0 + (j 0).val < 28 := lt_of_lt_of_le (Nat.add_lt_add_left (j 0).isLt _) h28
  have hj1 : off 1 + (j 1).val < 1792 := lt_of_lt_of_le (Nat.add_lt_add_left (j 1).isLt _) (inb 1)
  have e0 : ∀ a, (((Rect.unit (s := S36x1792) off size inb).toLoadRect.idx j) a).val = off a + (j a).val := fun a => by
    show off a + 1 * (j a).val = _
    rw [Nat.one_mul]
  generalize ((Rect.unit (s := S36x1792) off size inb).toLoadRect.idx j) = y at e0
  have e00 := e0 0
  have e01 := e0 1
  unfold cell cellP
  rw [dif_pos ⟨h, hj1⟩]
  have e : y = (Rect.unit (s := S36x1792) ![0, 0] ![28, 1792] i28).emb (ix2 ⟨off 0 + (j 0).val, h⟩ ⟨off 1 + (j 1).val, hj1⟩) := by
    funext a
    apply Fin.ext
    match a with
    | ⟨0, _⟩ => exact e00.trans (show off 0 + (j 0).val = 0 + 1 * (off 0 + (j 0).val) by omega)
    | ⟨1, _⟩ => exact e01.trans (show off 1 + (j 1).val = 0 + 1 * (off 1 + (j 1).val) by omega)
  rw [e, View.canon_cons_emb]

/-- `n` consecutive cells of a padded gray buffer, from row `r`, lane `c`. -/
def rowOf (w : FVec F S28x1792 .bf16) (r c n : ℕ) : (⟨2, ![1, n]⟩ : Shape).Idx → F .bf16 :=
  fun j => cell w (r + (j 0).val) (c + (j 1).val)

/-- The frame's gray levels, as the kernel stores them. -/
def gA (x0 : Vec F S1x3x1x28x1792 .f32) : FVec F S28x1792 .bf16 := k0_pay11 x0
/-- The same with −1 in the first column of the image. -/
def gL (x0 : Vec F S1x3x1x28x1792 .f32) : FVec F S28x1792 .bf16 := k0_pay13 (k0_pay8 x0)
/-- The same with −1 in the last column of the image. -/
def gR (x0 : Vec F S1x3x1x28x1792 .f32) : FVec F S28x1792 .bf16 := k0_pay15 (k0_pay9 x0)

/-- Two parts of a row set side by side. -/
def cat {s t : Shape} (h : Shape.Concatenates [s, t] S1x1792 1) (x : FVec F s .bf16) (y : FVec F t .bf16) : FVec F S1x1792 .bf16 :=
  concatenate S1x1792 1 [⟨s, x⟩, ⟨t, y⟩] h

/-- The side-by-side array of two parts is `cat` of them. -/
theorem concatenate_eq_cat {s t : Shape} (h : Shape.Concatenates [s, t] S1x1792 1) (x : FVec F s .bf16) (y : FVec F t .bf16) :
    concatenate S1x1792 1 [⟨s, x⟩, ⟨t, y⟩] h = cat h x y := rfl

/-- The one-hot columns of the pixels of stored row `r`. -/
def lhs (x0 : Vec F S1x3x1x28x1792 .f32) (r : ℕ) : FVec F S256x1792 .fp8e4m3 := k0_pay19 (rowOf (gA x0) r 0 1792)

/-- The cells of the neighbours of the pixels of stored row `r`, at the kernel's offset number `o`. -/
def nbr (x0 : Vec F S1x3x1x28x1792 .f32) (o : ℕ) (r : ℕ) : FVec F S1x1792 .bf16 :=
  match o with
  | 0 => cat concatenates_S1x1791_S1x1_S1x1792_d1 (rowOf (gL x0) r 1 1791) (rowOf (gL x0) (r + 1) 0 1)
  | 1 => cat concatenates_S1x1568_S1x224_S1x1792_d1 (rowOf (gA x0) r 224 1568) (rowOf (gA x0) (r + 1) 0 224)
  | 2 => cat concatenates_S1x1567_S1x225_S1x1792_d1 (rowOf (gL x0) r 225 1567) (rowOf (gL x0) (r + 1) 0 225)
  | _ => cat concatenates_S1x1569_S1x223_S1x1792_d1 (rowOf (gR x0) r 223 1569) (rowOf (gR x0) (r + 1) 0 223)

/-- The one-hot columns of the neighbours of the pixels of stored row `r`, at the kernel's offset number `o`. -/
def rhs (x0 : Vec F S1x3x1x28x1792 .f32) (o : ℕ) (r : ℕ) : FVec F S256x1792 .fp8e4m3 := k0_pay19 (nbr x0 o r)

/-- The histogram at offset number `o` after the first `r` stored rows. -/
def hist (x0 : Vec F S1x3x1x28x1792 .f32) (o : ℕ) : ℕ → FVec F S1x256x256 .f32
  | 0 => fun _ => Scalar.ofBits .f32 0x00000000#32
  | r + 1 => k0_pay25 (lhs x0 r) (rhs x0 o r) (hist x0 o r)

/-- The six features of a block and the zeros after them, from its sums and its four histograms. -/
def feats (s1 s2 : F .f32) (h0 h1 h2 h3 : FVec F S1x256x256 .f32) : FVec F S1x1x128 .f32 :=
  k0_pay1 (k0_pay312 k0_pay303 (k0_pay308 h0 h1 h2 h3))
    (k0_pay316 (k0_pay306 h2) (k0_pay307 h3) (k0_pay313 (k0_pay304 h0) (k0_pay305 h1) (k0_pay306 h2) (k0_pay307 h3))
      (k0_pay314 (k0_pay304 h0) (k0_pay305 h1)) (k0_pay315 (k0_pay306 h2)))
    (k0_pay317 (k0_pay306 h2) (k0_pay307 h3) (k0_pay313 (k0_pay304 h0) (k0_pay305 h1) (k0_pay306 h2) (k0_pay307 h3))
      (k0_pay314 (k0_pay304 h0) (k0_pay305 h1)) (k0_pay315 (k0_pay306 h2)))
    (iota .tc S1x1x128 32 [2] iota_S1x1x128_d2_w32)
    (k0_pay318 s1 s2 (k0_pay310 (k0_pay309 h0 h1 h2 h3)) (k0_pay311 k0_pay302 (k0_pay308 h0 h1 h2 h3)))

/-- What one grid point leaves in its block of the result. -/
def blockOut (x0 : Vec F S1x3x1x28x1792 .f32) : FVec F S1x1x128 .f32 :=
  feats (k0_pay4 x0) (k0_pay5 x0) (hist x0 0 28) (hist x0 1 28) (hist x0 2 28) (hist x0 3 28)

set_option maxHeartbeats 40000000 in
/-- The body's stores, read back through its own loads, are `blockOut`. -/
theorem out_eq_blockOut (c : Dev nD) (i : grid0.Coords) (arg1 : Memref sig .tc .vmem S1x3x1x28x1792 .f32) (harg1 : arg1.IsWhole)
    (arg2 : Memref sig .tc .vmem S1x1x128 .f32) (harg2 : arg2.IsWhole) (arg3 : Memref sig .tc .vmem S36x1792 .bf16) (harg3 : arg3.IsWhole)
    (arg4 : Memref sig .tc .vmem S36x1792 .bf16) (harg4 : arg4.IsWhole) (arg5 : Memref sig .tc .vmem S36x1792 .bf16) (harg5 : arg5.IsWhole)
    (arg6 : Memref sig .tc .vmem S4x256x256 .f32) (harg6 : arg6.IsWhole) (x0 : Vec F S1x3x1x28x1792 .f32) :
    out0_A_1 c i arg1 harg1 arg2 harg2 arg3 harg3 arg4 harg4 arg5 harg5 arg6 harg6 x0 = blockOut x0 := by
  frame_open
  simp (disch := decide) only [↓ concatenate_eq_cat, ↓ View.readCov_skip, ↓ View.readCov_cons_toLoadRect, ↓ View.readCov_fill,
    readCov_row, readCov_frame, View.readAt_eq_ld, Memref.IsWhole.read_unread, View.ld_unit_lit',
    View.read_writes_junk_eq_canon, View.canon_cons_unit_lit']
  rfl

end Cert.Glcm
-- ==== Proof.Maths.lean ====
module

public import Idealize.ShloMosaic.Lib.IdealHost

@[expose] public section

namespace Cert.Glcm

open Finset

/-! ## Pairs of pixels of one frame

A frame is 224 rows of 224 pixels, numbered `224·r + c`. Offset number `o` pairs pixel `p` with pixel
`p + shift o`: to the right (0), below (1), below right (2), below left (3). -/

/-- How far on the second pixel of a pair lies. -/
def shift : ℕ → ℕ
  | 0 => 1
  | 1 => 224
  | 2 => 225
  | _ => 223

/-- The second pixel lies in the frame, and the pair does not wrap round an edge. -/
def Valid (o p : ℕ) : Prop :=
  p + shift o < 50176 ∧ ((o = 0 ∨ o = 2) → (p + shift o) % 224 ≠ 0) ∧ (o = 3 → (p + shift o) % 224 ≠ 223)

instance (o p : ℕ) : Decidable (Valid o p) := by unfold Valid; infer_instance

/-- When a pixel has a right neighbour. -/
theorem valid_zero (p : ℕ) : Valid 0 p ↔ p + 1 < 50176 ∧ (p + 1) % 224 ≠ 0 := by simp [Valid, shift]
/-- When a pixel has a neighbour below. -/
theorem valid_one (p : ℕ) : Valid 1 p ↔ p + 224 < 50176 := by simp [Valid, shift]
/-- When a pixel has a neighbour below to the right. -/
theorem valid_two (p : ℕ) : Valid 2 p ↔ p + 225 < 50176 ∧ (p + 225) % 224 ≠ 0 := by simp [Valid, shift]
/-- When a pixel has a neighbour below to the left. -/
theorem valid_three (p : ℕ) : Valid 3 p ↔ p + 223 < 50176 ∧ (p + 223) % 224 ≠ 223 := by simp [Valid, shift]

/-- The number of pairs. -/
def pairs : ℕ → ℕ
  | 0 => 49952
  | 1 => 49952
  | _ => 49729

/-- The first pixel of pair number `t`. -/
def pos : ℕ → ℕ → ℕ
  | 0, t => t / 223 * 224 + t % 223
  | 1, t => t
  | 2, t => t / 223 * 224 + t % 223
  | _, t => t / 223 * 224 + t % 223 + 1

/-- A sum over the valid pixels is a sum over the pairs. -/
theorem sum_valid (o : ℕ) (ho : o < 4) (f : ℕ → ℕ) :
    ∑ p ∈ range 50176, (if Valid o p then f p else 0) = ∑ t ∈ range (pairs o), f (pos o t) := by
  rw [← Finset.sum_filter]
  symm
  have key : ∀ g : ℕ → ℕ, (∀ t, t < pairs o → pos o t < 50176 ∧ Valid o (pos o t) ∧ g (pos o t) = t) →
      (∀ p, p < 50176 → Valid o p → g p < pairs o ∧ pos o (g p) = p) →
      ∑ t ∈ range (pairs o), f (pos o t) = ∑ p ∈ range 50176 with Valid o p, f p := by
    intro g h1 h2
    refine Finset.sum_nbij' (pos o) g ?_ ?_ ?_ ?_ ?_
    · intro t ht
      have := h1 t (mem_range.1 ht)
      simp [this.1, this.2.1]
    · intro p hp
      rw [mem_filter, mem_range] at hp
      exact mem_range.2 (h2 p hp.1 hp.2).1
    · intro t ht
      exact (h1 t (mem_range.1 ht)).2.2
    · intro p hp
      rw [mem_filter, mem_range] at hp
      exact (h2 p hp.1 hp.2).2
    · intro t _
      rfl
  match o, ho with
  | 0, _ =>
    refine key (fun p => p / 224 * 223 + p % 224) ?_ ?_ <;> intro t ht <;> simp only [pairs, pos, valid_zero, valid_one, valid_two, valid_three, and_true] at * <;> omega
  | 1, _ =>
    refine key (fun p => p) ?_ ?_ <;> intro t ht <;> simp only [pairs, pos, valid_zero, valid_one, valid_two, valid_three, and_true] at * <;> omega
  | 2, _ =>
    refine key (fun p => p / 224 * 223 + p % 224) ?_ ?_ <;> intro t ht <;> simp only [pairs, pos, valid_zero, valid_one, valid_two, valid_three, and_true] at * <;> omega
  | 3, _ =>
    refine key (fun p => p / 224 * 223 + p % 224 - 1) ?_ ?_ <;> intro t ht <;> simp only [pairs, pos, valid_zero, valid_one, valid_two, valid_three, and_true] at * <;> omega

/-- How many pairs at offset `o` have gray levels `a` and `b`, among those whose first pixel is below `m`. -/
def cntTo (q : ℕ → ℕ) (o m a b : ℕ) : ℕ :=
  ∑ p ∈ range m, if Valid o p ∧ q p = a ∧ q (p + shift o) = b then 1 else 0

/-- How many pairs at offset `o` have gray levels `a` and `b`. -/
def cnt (q : ℕ → ℕ) (o a b : ℕ) : ℕ := cntTo q o 50176 a b

/-- The count, over the numbered pairs. -/
theorem cnt_eq_sum_pairs (q : ℕ → ℕ) (o : ℕ) (ho : o < 4) (a b : ℕ) :
    cnt q o a b = ∑ t ∈ range (pairs o), if q (pos o t) = a ∧ q (pos o t + shift o) = b then 1 else 0 := by
  rw [← sum_valid o ho (fun p => if q p = a ∧ q (p + shift o) = b then 1 else 0)]
  unfold cnt cntTo
  refine Finset.sum_congr rfl fun p _ => ?_
  by_cases h : Valid o p <;> simp [h]

/-- The counts of all gray levels add up to the number of pairs. -/
theorem sum_cnt (q : ℕ → ℕ) (hq : ∀ p, q p < 256) (o : ℕ) (ho : o < 4) :
    ∑ a : Fin 256, ∑ b : Fin 256, cnt q o a b = pairs o := by
  simp only [cnt_eq_sum_pairs q o ho]
  have : ∀ t : ℕ, ∑ a : Fin 256, ∑ b : Fin 256,
      (if q (pos o t) = a.val ∧ q (pos o t + shift o) = b.val then 1 else 0) = 1 := by
    intro t
    rw [Finset.sum_eq_single ⟨q (pos o t), hq _⟩, Finset.sum_eq_single ⟨q (pos o t + shift o), hq _⟩]
    · simp
    · intro b _ hb
      rw [if_neg]
      rintro ⟨_, h⟩
      exact hb (Fin.ext h.symm)
    · intro h
      exact absurd (mem_univ _) h
    · intro a _ ha
      refine Finset.sum_eq_zero fun b _ => if_neg ?_
      rintro ⟨h, _⟩
      exact ha (Fin.ext h.symm)
    · simp
  calc ∑ a : Fin 256, ∑ b : Fin 256, ∑ t ∈ range (pairs o), _
      = ∑ a : Fin 256, ∑ t ∈ range (pairs o), ∑ b : Fin 256,
          (if q (pos o t) = a.val ∧ q (pos o t + shift o) = b.val then 1 else 0) :=
        Finset.sum_congr rfl fun a _ => Finset.sum_comm
    _ = ∑ t ∈ range (pairs o), ∑ a : Fin 256, ∑ b : Fin 256,
          (if q (pos o t) = a.val ∧ q (pos o t + shift o) = b.val then 1 else 0) := Finset.sum_comm
    _ = ∑ t ∈ range (pairs o), 1 := Finset.sum_congr rfl fun t _ => this t
    _ = pairs o := by simp

/-- One more stored row of 1792 pixels. -/
theorem cntTo_add (q : ℕ → ℕ) (o r a b : ℕ) :
    cntTo q o ((r + 1) * 1792) a b = cntTo q o (r * 1792) a b
      + ∑ l : Fin 1792, if Valid o (r * 1792 + l.val) ∧ q (r * 1792 + l.val) = a ∧ q (r * 1792 + l.val + shift o) = b then 1 else 0 := by
  unfold cntTo
  rw [Nat.add_mul, Nat.one_mul, Finset.sum_range_add, Finset.sum_range (n := 1792)]

/-! ## The features -/

section Features

variable {ι : Type} [Fintype ι]

/-- The mean of a weight over the symmetric and normed histogram. -/
theorem sum_normed (h w : ι → ι → ℝ) (hw : ∀ a b, w a b = w b a) (n : ℝ) (hn : n ≠ 0) :
    ∑ a, ∑ b, (h a b + h b a) / (2 * n) * w a b = (∑ a, ∑ b, h a b * w a b) / n := by
  have e : ∑ a, ∑ b, h b a * w a b = ∑ a, ∑ b, h a b * w a b := by
    rw [Finset.sum_comm]
    exact Finset.sum_congr rfl fun a _ => Finset.sum_congr rfl fun b _ => by rw [hw]
  have e2 : ∑ a, ∑ b, (h a b + h b a) / (2 * n) * w a b
      = (∑ a, ∑ b, h a b * w a b + ∑ a, ∑ b, h b a * w a b) / (2 * n) := by
    rw [← Finset.sum_add_distrib, Finset.sum_div]
    refine Finset.sum_congr rfl fun a _ => ?_
    rw [← Finset.sum_add_distrib, Finset.sum_div]
    exact Finset.sum_congr rfl fun b _ => by ring
  rw [e2, e]
  field_simp
  ring

/-- The sum of the squares of the symmetric and normed histogram. -/
theorem sum_normed_sq (h : ι → ι → ℝ) (n : ℝ) (hn : n ≠ 0) :
    ∑ a, ∑ b, (h a b + h b a) / (2 * n) * ((h a b + h b a) / (2 * n))
      = (∑ a, ∑ b, h a b * h a b + ∑ a, ∑ b, h a b * h b a) / (2 * (n * n)) := by
  have e : ∑ a, ∑ b, h b a * h b a = ∑ a, ∑ b, h a b * h a b := Finset.sum_comm
  have e2 : ∑ a, ∑ b, (h a b + h b a) / (2 * n) * ((h a b + h b a) / (2 * n))
      = (∑ a, ∑ b, h a b * h a b + 2 * ∑ a, ∑ b, h a b * h b a + ∑ a, ∑ b, h b a * h b a) / (4 * (n * n)) := by
    rw [Finset.mul_sum, ← Finset.sum_add_distrib, ← Finset.sum_add_distrib, Finset.sum_div]
    refine Finset.sum_congr rfl fun a _ => ?_
    rw [Finset.mul_sum, ← Finset.sum_add_distrib, ← Finset.sum_add_distrib, Finset.sum_div]
    refine Finset.sum_congr rfl fun b _ => ?_
    field_simp
    ring
  rw [e2, e]
  field_simp
  ring

/-- The sum of the symmetric histogram. -/
theorem sum_sym (h : ι → ι → ℝ) : ∑ a, ∑ b, (h a b + h b a) = 2 * ∑ a, ∑ b, h a b := by
  have e : ∑ a, ∑ b, h b a = ∑ a, ∑ b, h a b := Finset.sum_comm
  simp only [Finset.sum_add_distrib]
  rw [e]
  ring

/-- Linear: four weighted histograms under one weight. -/
theorem sum_four (h0 h1 h2 h3 w : ι → ι → ℝ) (c0 c1 c2 c3 : ℝ) :
    ∑ a, ∑ b, (h0 a b * c0 + h1 a b * c1 + h2 a b * c2 + h3 a b * c3) * w a b
      = (∑ a, ∑ b, h0 a b * w a b) * c0 + (∑ a, ∑ b, h1 a b * w a b) * c1 + (∑ a, ∑ b, h2 a b * w a b) * c2
        + (∑ a, ∑ b, h3 a b * w a b) * c3 := by
  simp only [Finset.sum_mul, ← Finset.sum_add_distrib]
  exact Finset.sum_congr rfl fun a _ => Finset.sum_congr rfl fun b _ => by ring

end Features

/-- The variance is the mean of the squares less the square of the mean. -/
theorem variance {ι : Type} (s : Finset ι) (g : ι → ℝ) (m : ℝ) (hm : m ≠ 0) (hc : (s.card : ℝ) = m) :
    (∑ p ∈ s, (g p - (∑ p ∈ s, g p) / m) * (g p - (∑ p ∈ s, g p) / m)) / m
      = (∑ p ∈ s, g p * g p) / m - (∑ p ∈ s, g p) / m * ((∑ p ∈ s, g p) / m) := by
  generalize hS : ∑ p ∈ s, g p = S
  have : ∑ p ∈ s, (g p - S / m) * (g p - S / m) = ∑ p ∈ s, g p * g p - 2 * (S / m) * S + m * (S / m * (S / m)) := by
    rw [← hS, ← hc, Finset.mul_sum, ← Finset.sum_sub_distrib, ← nsmul_eq_mul, ← Finset.sum_const, ← Finset.sum_add_distrib]
    exact Finset.sum_congr rfl fun p _ => by ring
  rw [this]
  field_simp
  ring

/-- A variance is not below zero. -/
theorem variance_nonneg {ι : Type} (s : Finset ι) (g : ι → ℝ) (μ m : ℝ) (hm : 0 ≤ m) :
    0 ≤ (∑ p ∈ s, (g p - μ) * (g p - μ)) / m :=
  div_nonneg (Finset.sum_nonneg fun p _ => mul_self_nonneg _) hm

/-! ## The six features of a frame, as real numbers -/

noncomputable section

/-- The difference of two gray levels. -/
def dif (a b : Fin 256) : ℝ := (a.val : ℝ) - (b.val : ℝ)

/-- The weight of the contrast. -/
def wCon (a b : Fin 256) : ℝ := dif a b * dif a b
/-- The weight of the dissimilarity. -/
def wDis (a b : Fin 256) : ℝ := |dif a b|
/-- The weight of the homogeneity. -/
def wHom (a b : Fin 256) : ℝ := 1 / (1 + dif a b * dif a b)

/-- The mean over the four offsets of a weight over the normed histogram. -/
def meanOf (h : ℕ → Fin 256 → Fin 256 → ℝ) (w : Fin 256 → Fin 256 → ℝ) : ℝ :=
  1 / 4 * ∑ a, ∑ b, (h 0 a b * (1 / 49952) + h 1 a b * (1 / 49952) + h 2 a b * (1 / 49729) + h 3 a b * (1 / 49729)) * w a b

/-- The mean over the four offsets of the sum of the squares of the normed histogram. -/
def asmOf (h : ℕ → Fin 256 → Fin 256 → ℝ) : ℝ :=
  1 / 8 * ((∑ a, ∑ b, (h 0 a b * h 0 a b * (1 / 2495202304) + h 1 a b * h 1 a b * (1 / 2495202304)
      + h 2 a b * h 2 a b * (1 / 2472973441) + h 3 a b * h 3 a b * (1 / 2472973441)))
    + ∑ a, ∑ b, (h 0 a b * h 0 b a * (1 / 2495202304) + h 1 a b * h 1 b a * (1 / 2495202304)
      + h 2 a b * h 2 b a * (1 / 2472973441) + h 3 a b * h 3 b a * (1 / 2472973441)))

/-- The sum of a function of the gray levels. -/
def sumOver (f : ℕ → ℝ) : ℝ := ∑ p ∈ range 50176, f p

/-- The variance of the gray levels. -/
def varOf (q : ℕ → ℕ) : ℝ :=
  sumOver (fun p => (q p : ℝ) * (q p : ℝ)) / 50176 - sumOver (fun p => (q p : ℝ)) / 50176 * (sumOver (fun p => (q p : ℝ)) / 50176)

/-- The histograms as real numbers. -/
def histOf (q : ℕ → ℕ) (o : ℕ) (a b : Fin 256) : ℝ := (cnt q o a b : ℝ)

/-- The features in their order: standard deviation, contrast, dissimilarity, homogeneity, second moment, energy. -/
def feature (q : ℕ → ℕ) : ℕ → ℝ
  | 0 => Real.sqrt (varOf q)
  | 1 => meanOf (histOf q) wCon
  | 2 => meanOf (histOf q) wDis
  | 3 => meanOf (histOf q) wHom
  | 4 => asmOf (histOf q)
  | _ => Real.sqrt (asmOf (histOf q))

/-- The contrast's weight is symmetric. -/
theorem wCon_symm (a b : Fin 256) : wCon a b = wCon b a := by unfold wCon dif; ring
/-- The dissimilarity's weight is symmetric. -/
theorem wDis_symm (a b : Fin 256) : wDis a b = wDis b a := by unfold wDis dif; rw [abs_sub_comm]
/-- The homogeneity's weight is symmetric. -/
theorem wHom_symm (a b : Fin 256) : wHom a b = wHom b a := by unfold wHom dif; ring

/-- The variance in the reference's form: the mean of the squares of the differences from the mean. -/
theorem varOf_eq (q : ℕ → ℕ) :
    varOf q = sumOver (fun p => ((q p : ℝ) - sumOver (fun p => (q p : ℝ)) / 50176)
      * ((q p : ℝ) - sumOver (fun p => (q p : ℝ)) / 50176)) / 50176 :=
  (variance (range 50176) (fun p => (q p : ℝ)) 50176 (by norm_num) (by simp)).symm

/-- A variance is not below zero. -/
theorem varOf_nonneg (q : ℕ → ℕ) : 0 ≤ varOf q := by
  rw [varOf_eq]
  exact variance_nonneg _ _ _ _ (by norm_num)

/-- An angular second moment is not below zero. -/
theorem asmOf_nonneg (q : ℕ → ℕ) : 0 ≤ asmOf (histOf q) := by
  unfold asmOf histOf
  positivity

/-- The number of pairs as a real number. -/
def pairsR (o : ℕ) : ℝ := (pairs o : ℝ)

/-- An entry of the symmetric and normed histogram. -/
def normedOf (h : ℕ → Fin 256 → Fin 256 → ℝ) (o : ℕ) (a b : Fin 256) : ℝ := (h o a b + h o b a) / (2 * pairsR o)

/-- The mean of a weight in the reference's form and order of the offsets. -/
theorem meanOf_eq (h : ℕ → Fin 256 → Fin 256 → ℝ) (w : Fin 256 → Fin 256 → ℝ) (hw : ∀ a b, w a b = w b a) :
    meanOf h w = (∑ a, ∑ b, normedOf h 0 a b * w a b + ∑ a, ∑ b, normedOf h 2 a b * w a b
      + ∑ a, ∑ b, normedOf h 1 a b * w a b + ∑ a, ∑ b, normedOf h 3 a b * w a b) / 4 := by
  have e : ∀ o, pairsR o ≠ 0 → ∑ a, ∑ b, normedOf h o a b * w a b = (∑ a, ∑ b, h o a b * w a b) / pairsR o :=
    fun o ho => sum_normed (h o) w hw (pairsR o) ho
  rw [e 0 (by norm_num [pairsR, pairs]), e 1 (by norm_num [pairsR, pairs]), e 2 (by norm_num [pairsR, pairs]),
    e 3 (by norm_num [pairsR, pairs])]
  unfold meanOf
  rw [sum_four]
  norm_num [pairsR, pairs]
  ring

/-- The second moment in the reference's form and order of the offsets. -/
theorem asmOf_eq (h : ℕ → Fin 256 → Fin 256 → ℝ) :
    asmOf h = (∑ a, ∑ b, normedOf h 0 a b * normedOf h 0 a b + ∑ a, ∑ b, normedOf h 2 a b * normedOf h 2 a b
      + ∑ a, ∑ b, normedOf h 1 a b * normedOf h 1 a b + ∑ a, ∑ b, normedOf h 3 a b * normedOf h 3 a b) / 4 := by
  have e : ∀ o, pairsR o ≠ 0 → ∑ a, ∑ b, normedOf h o a b * normedOf h o a b
      = (∑ a, ∑ b, h o a b * h o a b + ∑ a, ∑ b, h o a b * h o b a) / (2 * (pairsR o * pairsR o)) :=
    fun o ho => sum_normed_sq (h o) (pairsR o) ho
  rw [e 0 (by norm_num [pairsR, pairs]), e 1 (by norm_num [pairsR, pairs]), e 2 (by norm_num [pairsR, pairs]),
    e 3 (by norm_num [pairsR, pairs])]
  unfold asmOf
  simp only [Finset.sum_add_distrib, ← Finset.sum_mul]
  norm_num [pairsR, pairs]
  ring

end

end Cert.Glcm
-- ==== Proof.Gray.lean ====
module

public import Idealize.ShloMosaic.Lib.IdealHost
public import proofs.«01_k».proof.Proof.Maths

@[expose] public section

noncomputable section

namespace Cert.Glcm

open Idealize.ShloMosaic

/-- The gray level of a pixel from its three channels. -/
def lev (x y z : EReal) : ℕ := ⌊(x.toReal + y.toReal + z.toReal) / 3 * 255⌋₊

/-- A value of the range the pixels are drawn from. -/
def Unit01 (x : EReal) : Prop := 0 ≤ x ∧ x ≤ 1

/-- A number of the unit interval is real. -/
theorem Unit01.coe {x : EReal} (h : Unit01 x) : ∃ r : ℝ, x = (r : EReal) ∧ 0 ≤ r ∧ r ≤ 1 := by
  obtain ⟨h0, h1⟩ := h
  induction x with
  | bot => exact absurd h0 (by simp)
  | top => exact absurd h1 (by rw [top_le_iff]; exact EReal.coe_ne_top 1)
  | coe r => exact ⟨r, rfl, by exact_mod_cast h0, by exact_mod_cast h1⟩

/-- A gray level is at most 255. -/
theorem lev_lt {x y z : EReal} (hx : Unit01 x) (hy : Unit01 y) (hz : Unit01 z) : lev x y z < 256 := by
  obtain ⟨a, rfl, ha0, ha1⟩ := hx.coe
  obtain ⟨b, rfl, hb0, hb1⟩ := hy.coe
  obtain ⟨c, rfl, hc0, hc1⟩ := hz.coe
  unfold lev
  rw [Nat.floor_lt (by simp only [EReal.toReal_coe]; positivity)]
  simp only [EReal.toReal_coe]
  push_cast
  linarith

/-- A quotient of real numbers. -/
theorem div_real (x : ℝ) {y : ℝ} (h : y ≠ 0) : Ideal.div (x : EReal) (y : EReal) = ((x / y : ℝ) : EReal) := by
  rw [Ideal.div_coe h, ← EReal.coe_mul]
  congr 1
  ring

/-- The word of three. -/
theorem ofBits_three : Ideal.ofBits .f32 0x40400000#32 = ((3 : ℝ) : EReal) := by
  simp [Ideal.ofBits, Ideal.ieee, -EReal.coe_mul]; norm_num

/-- The word of 255. -/
theorem ofBits_255 : Ideal.ofBits .f32 0x437F0000#32 = ((255 : ℝ) : EReal) := by
  simp [Ideal.ofBits, Ideal.ieee, -EReal.coe_mul]; norm_num

/-- The word of the number of pixels. -/
theorem ofBits_50176 : Ideal.ofBits .f32 0x47440000#32 = ((50176 : ℝ) : EReal) := by
  simp [Ideal.ofBits, Ideal.ieee, -EReal.coe_mul]; norm_num

/-- The word of a quarter. -/
theorem ofBits_quarter : Ideal.ofBits .f32 0x3E800000#32 = ((1 / 4 : ℝ) : EReal) := by
  simp [Ideal.ofBits, Ideal.ieee, -EReal.coe_mul]; norm_num

/-- The word of an eighth. -/
theorem ofBits_eighth : Ideal.ofBits .f32 0x3E000000#32 = ((1 / 8 : ℝ) : EReal) := by
  simp [Ideal.ofBits, Ideal.ieee, -EReal.coe_mul]; norm_num

/-- The word of four. -/
theorem ofBits_four : Ideal.ofBits .f32 0x40800000#32 = ((4 : ℝ) : EReal) := by
  simp [Ideal.ofBits, Ideal.ieee, -EReal.coe_mul]; norm_num

/-- A number of the range of a gray level, converted to a word. -/
theorem fptosi_floor {r : ℝ} (h0 : 0 ≤ r) (h1 : r < 256) : Ideal.fptosi 32 (r : EReal) = BitVec.ofNat 32 ⌊r⌋₊ := by
  unfold Ideal.fptosi Ideal.toIntClamped
  have e : ⌊r⌋ = (⌊r⌋₊ : ℤ) := (Int.natCast_floor_eq_floor h0).symm
  have h2 : ⌊r⌋₊ < 256 := (Nat.floor_lt h0).2 (by exact_mod_cast h1)
  show BitVec.ofInt 32 (max _ (min _ (if 0 ≤ r then ⌊r⌋ else ⌈r⌉))) = _
  rw [if_pos h0, e]
  rw [min_eq_right (by norm_num; omega), max_eq_right (by omega)]
  exact BitVec.ofInt_natCast ..

/-- The kernel's conversion truncates, which at a number that is not below zero is the floor. -/
theorem gray_trunc {x y z : EReal} (hx : Unit01 x) (hy : Unit01 y) (hz : Unit01 z) :
    Ideal.fptosi 32 (Ideal.div (x + y + z) (Ideal.ofBits .f32 0x40400000#32) * Ideal.ofBits .f32 0x437F0000#32)
      = BitVec.ofNat 32 (lev x y z) := by
  obtain ⟨a, rfl, ha0, ha1⟩ := hx.coe
  obtain ⟨b, rfl, hb0, hb1⟩ := hy.coe
  obtain ⟨c, rfl, hc0, hc1⟩ := hz.coe
  rw [ofBits_three, ofBits_255, ← EReal.coe_add, ← EReal.coe_add, div_real _ (by norm_num), ← EReal.coe_mul,
    fptosi_floor (by positivity) (by linarith)]
  rfl

/-- The reference takes the floor before it converts. -/
theorem gray_floor {x y z : EReal} (hx : Unit01 x) (hy : Unit01 y) (hz : Unit01 z) :
    Ideal.fptosi 32 (Ideal.liftRound Int.floor
        (Ideal.div (x + y + z) (Ideal.ofBits .f32 0x40400000#32) * Ideal.ofBits .f32 0x437F0000#32))
      = BitVec.ofNat 32 (lev x y z) := by
  obtain ⟨a, rfl, ha0, ha1⟩ := hx.coe
  obtain ⟨b, rfl, hb0, hb1⟩ := hy.coe
  obtain ⟨c, rfl, hc0, hc1⟩ := hz.coe
  rw [ofBits_three, ofBits_255, ← EReal.coe_add, ← EReal.coe_add, div_real _ (by norm_num), ← EReal.coe_mul,
    Ideal.liftRound_coe]
  have h0 : (0 : ℝ) ≤ (a + b + c) / 3 * 255 := by positivity
  have h1 : (a + b + c) / 3 * 255 < 256 := by linarith
  rw [fptosi_floor (by exact_mod_cast Int.floor_nonneg.2 h0) (lt_of_le_of_lt (Int.floor_le _) h1)]
  have e : ⌊(a + b + c) / 3 * 255⌋ = (⌊(a + b + c) / 3 * 255⌋₊ : ℤ) := (Int.natCast_floor_eq_floor h0).symm
  rw [e]
  simp [lev]

/-- Real numbers summed as extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The word of a gray level, back as a number. -/
theorem toInt_ofNat {n : ℕ} (h : n < 2 ^ 31) : (BitVec.ofNat 32 n).toInt = (n : ℤ) := by
  rw [BitVec.toInt_eq_toNat_cond, BitVec.toNat_ofNat, Nat.mod_eq_of_lt (by omega), if_pos (by omega)]

end Cert.Glcm
-- ==== Proof.KernelHist.lean ====
module

public import proofs.«01_k».proof.Proof.KernelBody
public import proofs.«01_k».proof.Proof.Gray
public import Idealize.ShloMosaic.Lib.Pointwise

@[expose] public section

set_option maxRecDepth 16384

noncomputable section

namespace Cert.Glcm

open Idealize.ShloMosaic Idealize.ShloMosaic.TcCoe
open Cert.KernelIdeal Cert.KernelIdeal.Gen

/-- `q` numbers the gray levels of a block's pixels, which lie in the range they are drawn from. -/
structure IsGray (x0 : Vec Ideal S1x3x1x28x1792 .f32) (q : ℕ → ℕ) : Prop where
  unit : ∀ i, Unit01 (x0 i)
  lev : ∀ (i : Fin 28) (l : Fin 1792),
    q (i.val * 1792 + l.val) = lev (x0 (ix5 0 0 0 i l)) (x0 (ix5 0 1 0 i l)) (x0 (ix5 0 2 0 i l))
  lt : ∀ p, q p < 256

variable {x0 : Vec Ideal S1x3x1x28x1792 .f32} {q : ℕ → ℕ}

/-- The kernel's gray level of a pixel. -/
theorem gray_word (h : IsGray x0 q) (i : Fin 28) (l : Fin 1792) :
    k0_pay2 x0 (ix2 i l) = BitVec.ofNat 32 (q (i.val * 1792 + l.val)) := by
  rw [h.lev, ← gray_trunc (h.unit _) (h.unit _) (h.unit _)]
  pointwise [k0_pay2]
  rfl

/-- A number of pixels or a gray level, as the programs hold it. -/
def num (n : ℕ) : EReal := ((n : ℝ) : EReal)

/-- The mark of a pixel that is not there. -/
def mark : EReal := ((-1 : ℝ) : EReal)

/-- Equal numbers as extended reals are equal naturals. -/
theorem num_inj {a b : ℕ} : num a = num b ↔ a = b := by
  unfold num
  rw [EReal.coe_eq_coe_iff, Nat.cast_inj]

/-- The mark is no gray level. -/
theorem mark_ne_num (b : ℕ) : mark ≠ num b := by
  unfold mark num
  rw [Ne, EReal.coe_eq_coe_iff]
  intro h
  have : (0 : ℝ) ≤ (b : ℝ) := Nat.cast_nonneg b
  linarith

/-- The word of the mark. -/
theorem ofBits_mark : Ideal.ofBits .bf16 0xBF80#16 = mark := Ideal.ofBits_neg_one_bf16

/-- A choice by an equality of words. -/
theorem select_eq_words {α : Type} {a b : ℕ} (ha : a < 2 ^ 32) (hb : b < 2 ^ 32) (x y : α) :
    Scalar.select (IntOp.cmpi .eq (BitVec.ofNat 32 a) (BitVec.ofNat 32 b)) x y = if a = b then x else y := by
  unfold Scalar.select IntOp.cmpi
  by_cases h : a = b
  · subst h; simp
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    show (if BitVec.ofBool (BitVec.ofNat 32 a == BitVec.ofNat 32 b) = 1#1 then x else y) = y
    rw [beq_eq_false_iff_ne.2 this]
    rfl

/-- A word of a small number, converted. -/
theorem sitofp_num (φ : FTy) {n : ℕ} (h : n < 2 ^ 31) : FloatOps.sitofp (F := Ideal) φ (BitVec.ofNat 32 n) = num n := by
  show (((BitVec.ofNat 32 n).toInt : ℝ) : EReal) = _
  rw [toInt_ofNat h]
  unfold num
  norm_cast

/-- A pixel's gray level as a number. -/
theorem gray_num (h : IsGray x0 q) (i : Fin 28) (l : Fin 1792) :
    k0_pay6 x0 (ix2 i l) = num (q (i.val * 1792 + l.val)) := by
  show FloatOps.sitofp (F := Ideal) .bf16 (k0_pay2 x0 (ix2 i l)) = _
  rw [gray_word h, sitofp_num _ (lt_trans (h.lt _) (by norm_num))]

/-- The remainder of a lane's word by the width of a frame. -/
theorem remsi_224 : ∀ l : Fin 1792, IntOp.remsi .vector (BitVec.ofNat 32 l.val) 224#32 = BitVec.ofNat 32 (l.val % 224) := by
  decide +kernel

/-- The column of a lane, in the kernel's words. -/
theorem column_word (i : Fin 28) (l : Fin 1792) : k0_pay7 (ix2 i l) = BitVec.ofNat 32 (l.val % 224) := by
  pointwise [k0_pay7]
  exact remsi_224 l

/-- A stored frame: the gray levels at the pixels that `M` keeps, the mark at the others. -/
def Stores (w : FVec Ideal S28x1792 .bf16) (q : ℕ → ℕ) (M : ℕ → Prop) [DecidablePred M] : Prop :=
  ∀ (i : Fin 28) (l : Fin 1792),
    w (ix2 i l) = if M (i.val * 1792 + l.val) then num (q (i.val * 1792 + l.val)) else mark

/-- The first scratch array stores every gray level. -/
theorem gA_stores (h : IsGray x0 q) : Stores (gA x0) q fun _ => True := by
  intro i l
  rw [if_pos trivial, ← gray_num h]
  unfold gA k0_pay11
  rw [shapeCast_self]

/-- The second scratch array stores the gray levels outside the first column. -/
theorem gL_stores (h : IsGray x0 q) : Stores (gL x0) q fun p => p % 224 ≠ 0 := by
  intro i l
  rw [← gray_num h]
  unfold gL k0_pay13
  rw [shapeCast_self]
  unfold k0_pay8
  pointwise []
  rw [column_word, select_eq_words (by omega) (by norm_num), ofBits_mark, ite_not]
  exact if_congr (by omega) rfl rfl

/-- The third scratch array stores the gray levels outside the last column. -/
theorem gR_stores (h : IsGray x0 q) : Stores (gR x0) q fun p => p % 224 ≠ 223 := by
  intro i l
  rw [← gray_num h]
  unfold gR k0_pay15
  rw [shapeCast_self]
  unfold k0_pay9
  pointwise []
  rw [column_word, select_eq_words (by omega) (by norm_num), ofBits_mark, ite_not]
  exact if_congr (by omega) rfl rfl

/-- A cell of a padded buffer. -/
theorem Stores.cell {w : FVec Ideal S28x1792 .bf16} {M : ℕ → Prop} [DecidablePred M] (hw : Stores w q M)
    {r c : ℕ} (hr : r < 36) (hc : c < 1792) :
    cell w r c = if r * 1792 + c < 50176 ∧ M (r * 1792 + c) then num (q (r * 1792 + c)) else mark := by
  unfold Cert.Glcm.cell cellP
  by_cases h : r < 28
  · rw [dif_pos ⟨h, hc⟩]
    refine (hw ⟨r, h⟩ ⟨c, hc⟩).trans (if_congr ?_ rfl rfl)
    exact (and_iff_right (by show r * 1792 + c < 50176; omega)).symm
  · rw [dif_neg (fun hh => h hh.1), dif_pos ⟨by omega, hc⟩, if_neg (fun hh => by omega)]
    unfold k0_pay12 k0_pay10
    rw [shapeCast_self]
    exact ofBits_mark

/-- Two parts of a row set side by side, at a lane. -/
theorem cat_apply {n k : ℕ} (e : Shape.Concatenates [⟨2, ![1, n]⟩, ⟨2, ![1, k]⟩] S1x1792 1)
    (x : FVec Ideal ⟨2, ![1, n]⟩ .bf16) (y : FVec Ideal ⟨2, ![1, k]⟩ .bf16) (hk : n + k = 1792) (l : Fin 1792) :
    cat e x y (ix2 0 l) = if h : l.val < n then x (ix2 0 ⟨l.val, h⟩) else y (ix2 0 ⟨l.val - n, by omega⟩) := by
  unfold cat
  by_cases h : l.val < n
  · rw [dif_pos h]
    refine concatenate_pair_apply_left 1 x y e _ rfl _ fun b => ?_
    match b with
    | ⟨0, _⟩ => rfl
    | ⟨1, _⟩ => rfl
  · rw [dif_neg h]
    refine concatenate_pair_apply_right 1 x y e _ rfl rfl _ (fun b hb => ?_) ?_
    · match b with
      | ⟨0, _⟩ => rfl
      | ⟨1, _⟩ => exact absurd rfl hb
    · show l.val - n + n = l.val
      omega

/-- A row of a padded buffer `k` pixels on. -/
theorem Stores.shifted {w : FVec Ideal S28x1792 .bf16} {M : ℕ → Prop} [DecidablePred M] (hw : Stores w q M)
    {n k : ℕ} (e : Shape.Concatenates [⟨2, ![1, n]⟩, ⟨2, ![1, k]⟩] S1x1792 1) (hk : n + k = 1792)
    {r : ℕ} (hr : r < 28) (l : Fin 1792) :
    cat e (rowOf w r k n) (rowOf w (r + 1) 0 k) (ix2 0 l)
      = if r * 1792 + l.val + k < 50176 ∧ M (r * 1792 + l.val + k) then num (q (r * 1792 + l.val + k)) else mark := by
  rw [cat_apply e _ _ hk]
  by_cases h : l.val < n
  · rw [dif_pos h]
    show Cert.Glcm.cell w (r + 0) (k + l.val) = _
    rw [hw.cell (by omega) (by omega), show (r + 0) * 1792 + (k + l.val) = r * 1792 + l.val + k by omega]
  · rw [dif_neg h]
    show Cert.Glcm.cell w (r + 1 + 0) (0 + (l.val - n)) = _
    rw [hw.cell (by omega) (by omega), show (r + 1 + 0) * 1792 + (0 + (l.val - n)) = r * 1792 + l.val + k by omega]

/-- The neighbours' gray levels of a stored row: those of the pairs' second pixels, the mark where there is no pair. -/
theorem nbr_apply (h : IsGray x0 q) (o : ℕ) (ho : o < 4) {r : ℕ} (hr : r < 28) (l : Fin 1792) :
    nbr x0 o r (ix2 0 l)
      = if Valid o (r * 1792 + l.val) then num (q (r * 1792 + l.val + shift o)) else mark := by
  match o, ho with
  | 0, _ => exact ((gL_stores h).shifted _ rfl hr l).trans (if_congr (valid_zero _).symm rfl rfl)
  | 1, _ => exact ((gA_stores h).shifted _ rfl hr l).trans (if_congr ((and_iff_left trivial).trans (valid_one _).symm) rfl rfl)
  | 2, _ => exact ((gL_stores h).shifted _ rfl hr l).trans (if_congr (valid_two _).symm rfl rfl)
  | 3, _ => exact ((gR_stores h).shifted _ rfl hr l).trans (if_congr (valid_three _).symm rfl rfl)

/-- The one-hot columns of a row. -/
theorem onehot_apply (v : FVec Ideal S1x1792 .bf16) (a : Fin 256) (l : Fin 1792) :
    k0_pay19 (F := Ideal) v (ix2 a l) = if v (ix2 0 l) = num a.val then 1 else 0 := by
  pointwise [k0_pay19, k0_pay18]
  rw [sitofp_num _ (by omega)]

/-- The one-hot matrix of a stored row. -/
theorem lhs_apply (h : IsGray x0 q) {r : ℕ} (hr : r < 28) (a : Fin 256) (l : Fin 1792) :
    lhs x0 r (ix2 a l) = if q (r * 1792 + l.val) = a.val then 1 else 0 := by
  unfold lhs
  rw [onehot_apply]
  show (if Cert.Glcm.cell (gA x0) (r + 0) (0 + l.val) = _ then (1 : EReal) else 0) = _
  have e := (gA_stores h).cell (r := r + 0) (c := 0 + l.val) (by omega) (by omega)
  rw [show (r + 0) * 1792 + (0 + l.val) = r * 1792 + l.val by omega] at e
  rw [e.trans (if_pos ⟨by omega, trivial⟩)]
  exact if_congr num_inj rfl rfl

/-- The one-hot matrix of the same row at an offset. -/
theorem rhs_apply (h : IsGray x0 q) (o : ℕ) (ho : o < 4) {r : ℕ} (hr : r < 28) (b : Fin 256) (l : Fin 1792) :
    rhs x0 o r (ix2 b l)
      = if Valid o (r * 1792 + l.val) ∧ q (r * 1792 + l.val + shift o) = b.val then 1 else 0 := by
  unfold rhs
  rw [onehot_apply, nbr_apply h o ho hr]
  by_cases hv : Valid o (r * 1792 + l.val)
  · rw [if_pos hv]
    exact if_congr (num_inj.trans (and_iff_right hv).symm) rfl rfl
  · rw [if_neg hv, if_neg (mark_ne_num _), if_neg fun hh => hv hh.1]

/-- The kernel's histogram after `r` stored rows: the pairs counted so far. -/
theorem hist_apply (h : IsGray x0 q) (o : ℕ) (ho : o < 4) (a b : Fin 256) :
    ∀ r, r ≤ 28 → hist x0 o r (ix3 0 a b) = num (cntTo q o (r * 1792) a b)
  | 0, _ => by
    show Ideal.ofBits .f32 0x00000000#32 = _
    rw [Ideal.ofBits_zero_f32]
    simp [num, cntTo]
  | r + 1, hr => by
    have ih := hist_apply h o ho a b r (by omega)
    show k0_pay25 (lhs x0 r) (rhs x0 o r) (hist x0 o r) (ix3 0 a b) = _
    rw [cntTo_add]
    pointwise [k0_pay25]
    rw [ih]
    unfold num
    rw [Nat.cast_add, EReal.coe_add, Nat.cast_sum, ← coe_sum]
    refine Ideal.add_congr rfl (Finset.sum_congr rfl fun l _ => ?_)
    rw [lhs_apply h (by omega), rhs_apply h o ho (by omega)]
    by_cases h0 : Valid o (r * 1792 + l.val) <;> by_cases h1 : q (r * 1792 + l.val) = a.val <;>
      by_cases h2 : q (r * 1792 + l.val + shift o) = b.val <;> simp [h0, h1, h2]

end Cert.Glcm
-- ==== Proof.KernelFeat.lean ====
module

public import proofs.«01_k».proof.Proof.KernelHist

@[expose] public section

set_option maxRecDepth 16384

noncomputable section

namespace Cert.Glcm

open Idealize.ShloMosaic Idealize.ShloMosaic.TcCoe
open Cert.KernelIdeal Cert.KernelIdeal.Gen

variable {x0 : Vec Ideal S1x3x1x28x1792 .f32} {q : ℕ → ℕ}

/-- The first named constant: one over the pairs of the offsets along a row or a column. -/
theorem named_inv_n : Named.named (F := Ideal) κ "inv_n" (φ := .f32) 0x37A7EEF2#32 = ((1 / 49952 : ℝ) : EReal) :=
  IdealRules.named_const.ideal_named_scalar _ _ _ _ rfl
/-- The second named constant: one over the pairs of the diagonal offsets. -/
theorem named_inv_d : Named.named (F := Ideal) κ "inv_d" (φ := .f32) 0x37A8AFBB#32 = ((1 / 49729 : ℝ) : EReal) :=
  IdealRules.named_const.ideal_named_scalar _ _ _ _ rfl
/-- The third named constant: the square of the first. -/
theorem named_inv_n2 : Named.named (F := Ideal) κ "inv_n2" (φ := .f32) 0x2FDC533D#32 = ((1 / 2495202304 : ℝ) : EReal) :=
  IdealRules.named_const.ideal_named_scalar _ _ _ _ rfl
/-- The fourth named constant: the square of the second. -/
theorem named_inv_d2 : Named.named (F := Ideal) κ "inv_d2" (φ := .f32) 0x2FDE4E3B#32 = ((1 / 2472973441 : ℝ) : EReal) :=
  IdealRules.named_const.ideal_named_scalar _ _ _ _ rfl

/-- The difference of two gray levels, in the kernel's words. -/
theorem diff_apply (a b : Fin 256) : k0_pay300 (F := Ideal) (ix2 a b) = ((dif a b : ℝ) : EReal) := by
  pointwise [k0_pay300]
  show ((((BitVec.ofNat 32 a.val - BitVec.ofNat 32 b.val).toInt : ℤ) : ℝ) : EReal) = _
  have e : (BitVec.ofNat 32 a.val - BitVec.ofNat 32 b.val).toInt = (a.val : ℤ) - (b.val : ℤ) := by
    rw [BitVec.toInt_sub, toInt_ofNat (by omega), toInt_ofNat (by omega), Int.bmod_def]
    omega
  rw [e]
  unfold dif
  norm_cast

/-- The greater of a real number and its negative is its absolute value. -/
theorem abs_coe (r : ℝ) : max (r : EReal) (-(r : EReal)) = ((|r| : ℝ) : EReal) := by
  rw [← EReal.coe_neg, abs_eq_max_neg]
  exact (EReal.coe_strictMono.monotone.map_max).symm

/-- The kernel's weight for the contrast. -/
theorem con_weight (a b : Fin 256) : k0_pay301 (F := Ideal) (ix2 a b) = ((wCon a b : ℝ) : EReal) := by
  pointwise [k0_pay301]
  rw [diff_apply, ← EReal.coe_mul]
  rfl

/-- The kernel's weight for the dissimilarity. -/
theorem dis_weight (a b : Fin 256) : k0_pay302 (F := Ideal) (ix2 a b) = ((wDis a b : ℝ) : EReal) := by
  pointwise [k0_pay302]
  rw [diff_apply]
  exact abs_coe (dif a b)

/-- The kernel's weight for the homogeneity. -/
theorem hom_weight (a b : Fin 256) : k0_pay303 (F := Ideal) (ix2 a b) = ((wHom a b : ℝ) : EReal) := by
  pointwise [k0_pay303]
  rw [con_weight, show (1 : EReal) = ((1 : ℝ) : EReal) by norm_cast, ← EReal.coe_add,
    div_real _ (by have : 0 ≤ wCon a b := mul_self_nonneg _
                   linarith)]
  rfl

variable {h0 h1 h2 h3 : FVec Ideal S1x256x256 .f32} {r : ℕ → Fin 256 → Fin 256 → ℝ}

/-- Four arrays that hold four histograms of real numbers. -/
structure Holds (h0 h1 h2 h3 : FVec Ideal S1x256x256 .f32) (r : ℕ → Fin 256 → Fin 256 → ℝ) : Prop where
  zero : ∀ a b, h0 (ix3 0 a b) = ((r 0 a b : ℝ) : EReal)
  one : ∀ a b, h1 (ix3 0 a b) = ((r 1 a b : ℝ) : EReal)
  two : ∀ a b, h2 (ix3 0 a b) = ((r 2 a b : ℝ) : EReal)
  three : ∀ a b, h3 (ix3 0 a b) = ((r 3 a b : ℝ) : EReal)

/-- The kernel's contrast of four histograms. -/
theorem con_apply (H : Holds h0 h1 h2 h3 r) :
    k0_pay310 (k0_pay309 (F := Ideal) h0 h1 h2 h3) = ((meanOf r wCon : ℝ) : EReal) := by
  pointwise [k0_pay310, k0_pay309, k0_pay308, k0_pay304, k0_pay305, k0_pay306, k0_pay307]
  simp only [H.zero, H.one, H.two, H.three, named_inv_n, named_inv_d, con_weight, ofBits_quarter, ← EReal.coe_mul,
    ← EReal.coe_add, coe_sum]
  rfl

/-- The kernel's dissimilarity of four histograms. -/
theorem dis_apply (H : Holds h0 h1 h2 h3 r) :
    k0_pay311 k0_pay302 (k0_pay308 (F := Ideal) h0 h1 h2 h3) = ((meanOf r wDis : ℝ) : EReal) := by
  pointwise [k0_pay311, k0_pay308, k0_pay304, k0_pay305, k0_pay306, k0_pay307]
  simp only [H.zero, H.one, H.two, H.three, named_inv_n, named_inv_d, dis_weight, ofBits_quarter, ← EReal.coe_mul,
    ← EReal.coe_add, coe_sum]
  rfl

/-- The kernel's homogeneity of four histograms. -/
theorem hom_apply (H : Holds h0 h1 h2 h3 r) :
    k0_pay312 k0_pay303 (k0_pay308 (F := Ideal) h0 h1 h2 h3) = ((meanOf r wHom : ℝ) : EReal) := by
  pointwise [k0_pay312, k0_pay308, k0_pay304, k0_pay305, k0_pay306, k0_pay307]
  simp only [H.zero, H.one, H.two, H.three, named_inv_n, named_inv_d, hom_weight, ofBits_quarter, ← EReal.coe_mul,
    ← EReal.coe_add, coe_sum]
  rfl

/-- The kernel's angular second moment of four histograms. -/
theorem asm_apply (H : Holds h0 h1 h2 h3 r) :
    k0_pay316 (F := Ideal) (k0_pay306 h2) (k0_pay307 h3)
      (k0_pay313 (k0_pay304 h0) (k0_pay305 h1) (k0_pay306 h2) (k0_pay307 h3))
      (k0_pay314 (k0_pay304 h0) (k0_pay305 h1)) (k0_pay315 (k0_pay306 h2)) = ((asmOf r : ℝ) : EReal) := by
  pointwise [k0_pay316, k0_pay313, k0_pay314, k0_pay315, k0_pay304, k0_pay305, k0_pay306, k0_pay307]
  simp only [H.zero, H.one, H.two, H.three, named_inv_n2, named_inv_d2, ofBits_eighth, ← EReal.coe_mul,
    ← EReal.coe_add, coe_sum]
  rfl

/-- The root of a number that is not below zero. -/
theorem sqrt_real {r : ℝ} (h : 0 ≤ r) : Ideal.sqrt (r : EReal) = ((Real.sqrt r : ℝ) : EReal) := by
  rw [Ideal.sqrt_coe, if_neg (not_lt.2 h)]

/-- A sum over a block's stored rows and lanes is a sum over the frame's pixels. -/
theorem sum_block (f : ℕ → ℝ) : ∑ i : Fin 28, ∑ l : Fin 1792, f (i.val * 1792 + l.val) = sumOver f := by
  unfold sumOver
  rw [Finset.sum_range (n := 50176), Fin.sum_univ_tiles 28 1792 rfl]

/-- The kernel's sum of a frame's gray levels. -/
theorem s1_apply (h : IsGray x0 q) : k0_pay4 (F := Ideal) x0 = ((sumOver fun p => (q p : ℝ) : ℝ) : EReal) := by
  pointwise [k0_pay4, k0_pay3]
  simp only [gray_word h]
  rw [← sum_block]
  simp only [sitofp_num _ (lt_trans (h.lt _) (show 256 < 2 ^ 31 by norm_num)), num, coe_sum]

/-- The kernel's sum of their squares. -/
theorem s2_apply (h : IsGray x0 q) : k0_pay5 (F := Ideal) x0 = ((sumOver fun p => (q p : ℝ) * (q p : ℝ) : ℝ) : EReal) := by
  pointwise [k0_pay5, k0_pay3]
  simp only [gray_word h]
  rw [← sum_block]
  simp only [sitofp_num _ (lt_trans (h.lt _) (show 256 < 2 ^ 31 by norm_num)), num, ← EReal.coe_mul, coe_sum]

/-- The histograms at the end of the rows. -/
theorem hist_holds (h : IsGray x0 q) :
    Holds (hist x0 0 28) (hist x0 1 28) (hist x0 2 28) (hist x0 3 28) (histOf q) :=
  ⟨fun a b => hist_apply h 0 (by norm_num) a b 28 le_rfl, fun a b => hist_apply h 1 (by norm_num) a b 28 le_rfl,
    fun a b => hist_apply h 2 (by norm_num) a b 28 le_rfl, fun a b => hist_apply h 3 (by norm_num) a b 28 le_rfl⟩

/-- What the kernel leaves in a block's first six lanes: the frame's features. -/
theorem blockOut_apply (h : IsGray x0 q) (k : Fin 6) :
    blockOut x0 (ix3 0 0 ⟨k.val, by omega⟩) = ((feature q k.val : ℝ) : EReal) := by
  have hr := hist_holds h
  unfold blockOut feats
  rw [con_apply hr, dis_apply hr, hom_apply hr]
  unfold k0_pay317
  rw [asm_apply hr, s1_apply h, s2_apply h]
  pointwise [k0_pay1, k0_pay318]
  have hs : ∀ x, Scalar.sqrt (F := Ideal) (φ := .f32) x = Ideal.sqrt x := fun _ => rfl
  rw [hs, hs, ofBits_50176, div_real _ (by norm_num), div_real _ (by norm_num), ← EReal.coe_mul, ← EReal.coe_sub]
  change Scalar.select _ (Ideal.sqrt (max ((varOf q : ℝ) : EReal) 0)) 0 + _ + _ + _ + _ + _ = _
  rw [max_eq_left (by exact_mod_cast varOf_nonneg q), sqrt_real (varOf_nonneg q), sqrt_real (asmOf_nonneg q)]
  have hw : ∀ (j : ℕ) (_ : j < 6) (x : EReal), Scalar.select (IntOp.cmpi .eq (BitVec.ofNat 32 k.val) (BitVec.ofNat 32 j)) x 0
      = if k.val = j then x else 0 := fun j hj x => select_eq_words (by omega) (by omega) x 0
  rw [hw 0 (by norm_num), hw 1 (by norm_num), hw 2 (by norm_num), hw 3 (by norm_num), hw 4 (by norm_num), hw 5 (by norm_num)]
  fin_cases k <;> simp [feature]

end Cert.Glcm
-- ==== Proof.KernelValue.lean ====
module

public import proofs.«01_k».proof.Proof.KernelFeat
public import proofs.«01_k».proof.Proof.Gen.KernelIdeal.Frame
public import Idealize.ShloMosaic.Lib.Pipeline.ValueKit

@[expose] public section

set_option maxRecDepth 16384

noncomputable section

namespace Cert.Glcm

open Idealize.ShloMosaic Idealize.ShloMosaic.TcCoe Idealize.SL.Sem
open Idealize.ShloMosaic.Pipeline (Dat)
open Cert.KernelIdeal Cert.KernelIdeal.Gen

/-- The gray level of pixel `p` of frame `n` of a batch of clips. -/
def grayOf (X : FVec Ideal S16x3x16x224x224 .f32) (n p : ℕ) : ℕ :=
  lev (X (ix5 ⟨n / 16 % 16, by omega⟩ 0 ⟨n % 16, by omega⟩ ⟨p / 224 % 224, by omega⟩ ⟨p % 224, by omega⟩))
    (X (ix5 ⟨n / 16 % 16, by omega⟩ 1 ⟨n % 16, by omega⟩ ⟨p / 224 % 224, by omega⟩ ⟨p % 224, by omega⟩))
    (X (ix5 ⟨n / 16 % 16, by omega⟩ 2 ⟨n % 16, by omega⟩ ⟨p / 224 % 224, by omega⟩ ⟨p % 224, by omega⟩))

/-- The gray levels are below 256. -/
theorem grayOf_lt {X : FVec Ideal S16x3x16x224x224 .f32} (hX : ∀ i, Unit01 (X i)) (n p : ℕ) : grayOf X n p < 256 :=
  lev_lt (hX _) (hX _) (hX _)

variable (m : (ℓ : Loc nD τ sig) → Buf (Elt Ideal) ℓ)

/-- Where the windows' blocks lie at a point of the grid. -/
theorem idx_val : ∀ t : Fin cfg0.N, win0_0.index t = ![t.val / 16, 0, t.val % 16, 0, 0] ∧ win0_1.index t = ![t.val, 0, 0]
    ∧ t.val < 256 :=
  (by decide +kernel : ∀ t : Fin grid0.N, _)

/-- What the region finds in the reshaped argument. -/
theorem entry (c : Dev nD) : V m c main_v0
    = shapeCast _ (m ((c : Thread nD τ).loc main_arg0)) shapeCasts_S16x3x16x224x224_S16x3x16x28x1792 := by
  rfl

/-- A block's index read in the reshaped argument. -/
theorem block_entry (c : Dev nD) (t : Fin cfg0.N) (ht : t.val < 256) (k : Fin 3) (i : Fin 28) (l : Fin 1792) :
    iblk m c 0 t (ix5 0 k 0 i l) = V m c main_v0 (ix5 ⟨t.val / 16, by omega⟩ k ⟨t.val % 16, by omega⟩ i l) := by
  blk_ext [iblk, idx_val t]

/-- The reshape of the argument, read at an index. -/
theorem recast (X : FVec Ideal S16x3x16x224x224 .f32) (b : Fin 16) (k : Fin 3) (f : Fin 16) (i : Fin 28) (l : Fin 1792) :
    shapeCast S16x3x16x28x1792 X shapeCasts_S16x3x16x224x224_S16x3x16x28x1792 (ix5 b k f i l)
      = X (ix5 b k f ⟨(i.val * 1792 + l.val) / 224, by omega⟩ ⟨(i.val * 1792 + l.val) % 224, by omega⟩) := by
  pointwise
  blk_ext []

/-- A pixel of the block at a point: the pixel of the argument. -/
theorem block_pixel (c : Dev nD) (t : Fin cfg0.N) (k : Fin 3) (i : Fin 28) (l : Fin 1792) :
    iblk m c 0 t (ix5 0 k 0 i l) = m ((c : Thread nD τ).loc main_arg0)
      (ix5 ⟨t.val / 16 % 16, by omega⟩ k ⟨t.val % 16, by omega⟩ ⟨(i.val * 1792 + l.val) / 224 % 224, by omega⟩
        ⟨(i.val * 1792 + l.val) % 224, by omega⟩) := by
  have ht := (idx_val t).2.2
  refine (block_entry m c t ht k i l).trans ((congrFun (entry m c) _).trans ((recast _ _ _ _ _ _).trans ?_))
  congr 2
  · exact Fin.ext (Nat.mod_eq_of_lt (by omega)).symm
  · exact Fin.ext (Nat.mod_eq_of_lt (by omega)).symm

/-- The block at a point is gray as the frame that the point takes. -/
theorem block_gray (c : Dev nD) (hX : ∀ i, Unit01 (m ((c : Thread nD τ).loc main_arg0) i)) (t : Fin cfg0.N) :
    IsGray (iblk m c 0 t) (grayOf (m ((c : Thread nD τ).loc main_arg0)) t.val) where
  unit i := by
    obtain ⟨a, b, d, e, f, rfl⟩ : ∃ a b d e f, i = ix5 a b d e f := ⟨i 0, i 1, i 2, i 3, i 4, (ix5_eta i).symm⟩
    obtain rfl : a = 0 := Subsingleton.elim _ _
    obtain rfl : d = 0 := Subsingleton.elim _ _
    rw [block_pixel]
    exact hX _
  lev i l := by rw [block_pixel, block_pixel, block_pixel]; rfl
  lt p := grayOf_lt hX _ _

/-- The array of the results after the run. -/
def results (c : Dev nD) : FVec Ideal S256x1x128 .f32 := fun j =>
  blockOut (iblk m c 0 ⟨(j 0).val, (j 0).isLt⟩) (ix3 0 0 (j 2))

/-- The result array at the end of the grid. -/
theorem final (c : Dev nD) : (dats m 0 c).arrAt 1 (cfgs 0).N = results m c := by
  refine (dats m 0 c).arrAt_eq_of_covers 1 _ (by decide +kernel) fun t _ y => ?_
  blk_simp
  rw [after0_1]
  unfold outsAt0
  rw [out_eq_blockOut]
  unfold results
  have e0 : ((((win0_1.blk t).view.emb y) 0 : Fin _) : ℕ) = t.val := by
    blk_simp [idx_val t]
  have e2 : ((((win0_1.blk t).view.emb y) 2 : Fin _) : ℕ) = (y 2).val := by
    blk_simp [idx_val t]
  have a0 : (⟨(((win0_1.blk t).view.emb y) 0).val, (((win0_1.blk t).view.emb y) 0).isLt⟩ : Fin cfg0.N) = t := Fin.ext e0
  have a2 : y = ix3 0 0 (((win0_1.blk t).view.emb y) 2) := by
    refine (ix3_eta y).symm.trans ?_
    congr 1
    · exact Subsingleton.elim (α := Fin 1) _ _
    · exact Subsingleton.elim (α := Fin 1) _ _
    · exact Fin.ext e2.symm
  rw [a0]
  exact congrArg _ a2

/-- The lines after the region: the first six lanes of every frame's row, side by side. -/
theorem tail (c : Dev nD) : Pipeline.afterTail₀ cfgs (dats m) 0 (V0 m) [hostOps1] c main_v4
    = shapeCast S16x96 (shapeCast S256x6 (extractStridedSlice S256x1x6 ![0, 0, 0] (results m c) slices_S256x1x128_S256x1x6_0_0_0)
        shapeCasts_S256x1x6_S256x6) shapeCasts_S256x6_S16x96 := by
  unfold Pipeline.afterTail₀
  rw [← final]
  rw [show (dats m 0 c).arrAt 1 (cfgs 0).N = Pipeline.withArrays (cfgs 0).spec c (V0 m c)
      (fun w => (dats m 0 c).arrAt w (cfgs 0).N) (Proc.devRef .tc main_v1) from
    (Pipeline.withArrays_arr (cfgs 0).spec (by decide) c (V0 m c) (fun w => (dats m 0 c).arrAt w (cfgs 0).N) 1).symm]
  simp only [List.flatten_cons, List.flatten_nil, List.append_nil]
  after_results
  rfl

/-- Those lines read at an index. -/
theorem taken (A : FVec Ideal S256x1x128 .f32) (b : Fin 16) (j : Fin 96) :
    shapeCast S16x96 (shapeCast S256x6 (extractStridedSlice S256x1x6 ![0, 0, 0] A slices_S256x1x128_S256x1x6_0_0_0)
        shapeCasts_S256x1x6_S256x6) shapeCasts_S256x6_S16x96 (ix2 b j)
      = A (ix3 ⟨b.val * 16 + j.val / 6, by omega⟩ 0 ⟨j.val % 6, by omega⟩) := by
  pointwise

/-- The features of every frame, six to a frame, as the programs return them. -/
def answer (X : FVec Ideal S16x3x16x224x224 .f32) : FVec Ideal S16x96 .f32 := fun i =>
  ((feature (grayOf X ((i 0).val * 16 + (i 1).val / 6)) ((i 1).val % 6) : ℝ) : EReal)

/-- The kernel's result: the features of every frame. -/
theorem kernel_answer (c : Dev nD) (hX : ∀ i, Unit01 (m ((c : Thread nD τ).loc main_arg0) i)) :
    Pipeline.afterTail₀ cfgs (dats m) 0 (V0 m) [hostOps1] c main_v4 = answer (m ((c : Thread nD τ).loc main_arg0)) := by
  rw [tail]
  funext i
  obtain ⟨b, j, rfl⟩ : ∃ b j, i = ix2 b j := ⟨i 0, i 1, (ix2_eta i).symm⟩
  rw [taken]
  exact blockOut_apply (block_gray m c hX ⟨b.val * 16 + j.val / 6, by have := b.isLt; have := j.isLt; show _ < 256; omega⟩)
    ⟨j.val % 6, by omega⟩

/-- The kernel's run: its result is the features of every frame, its argument is as it was. -/
theorem kernel_run (g : Dev nD → PrngReg)
    (hX : ∀ (c : Dev nD) i, Unit01 (m ((c : Thread nD τ).loc main_arg0) i)) :
    θ_run defs (onTc (τ := τ) (main (F := Ideal))) ⟨m, fun _ => 0, g⟩ (fun r => ∀ c : Dev nD,
      r.2.mem ((c.tc : Thread nD τ).loc main_v4) = answer (m ((c : Thread nD τ).loc main_arg0))
      ∧ r.2.mem ((c.tc : Thread nD τ).loc main_arg0) = m ((c.tc : Thread nD τ).loc main_arg0)) := by
  refine (θ_run defs _ _).mono (fun r h c => ⟨?_, ?_⟩) (run_main m g)
  · exact ((h c).2 main_v4 (by decide)).trans (kernel_answer m c (hX c))
  · exact ((h c).2 main_arg0 (by decide)).trans (W_main_arg0 m (dats m) c)

end Cert.Glcm
-- ==== Proof.RefHist.lean ====
module

public import proofs.«01_k».proof.Proof.KernelValue
public import proofs.«01_k».proof.Proof.Gen.ReferenceIdeal.Read
public import Idealize.ShloMosaic.Lib.Routing.OpsPair

@[expose] public section

set_option maxRecDepth 16384

noncomputable section

namespace Cert.Glcm

open Idealize.ShloMosaic Idealize.ShloMosaic.TcCoe
open Finset
open Cert.ReferenceIdeal Cert.ReferenceIdeal.Gen Cert.ReferenceIdeal.Read

/-! ## A scatter of ones -/

/-- A scatter of `E` numbers into `N` entries, one index word to a number. -/
abbrev spread (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A number lands where its index word says. -/
theorem spread_lands {N E : ℕ} (wf) (idx : IVec ⟨2, ![E, 1]⟩ 32) (u : Fin E) (e : Fin N) :
    (spread N E wf).resultIdx? (ix1 u) idx = some (ix1 e) ↔ (idx (ix2 u 0)).toInt = (e.val : ℤ) := by
  have h0 : (spread N E wf).start (ix1 u) idx 0 = (idx (ix2 u 0)).toInt := by
    unfold ScatterDims.start
    rw [dif_pos (by exact List.mem_singleton.2 rfl)]
    congr 2
    funext b
    match b with
    | ⟨0, _⟩ => rfl
    | ⟨1, _⟩ => rfl
  have h1 : (spread N E wf).window (ix1 u) 0 = 0 := rfl
  rw [Routing.resultIdx?_eq_some]
  constructor
  · intro h
    have := h 0
    rw [h0, h1] at this
    simpa using this
  · intro h a
    obtain rfl : a = 0 := Subsingleton.elim _ _
    rw [h0, h1, h]
    simp

/-- An entry after the scatter of ones into zeros: how many index words name it. -/
theorem spread_count {N E : ℕ} (wf) (x : FVec Ideal ⟨1, ![N]⟩ .f32) (y : FVec Ideal ⟨1, ![E]⟩ .f32) (idx : IVec ⟨2, ![E, 1]⟩ 32)
    (hx : ∀ i, x (ix1 i) = 0) (hy : ∀ i, y (ix1 i) = 1) (f : ℕ → ℕ) (hf : ∀ u : Fin E, idx (ix2 u 0) = BitVec.ofNat 32 (f u.val))
    (hlt : ∀ u : Fin E, f u.val < 2 ^ 31) (e : Fin N) :
    Host.scatterAdd (F := Ideal) (spread N E wf) x idx y (ix1 e) = num (∑ u : Fin E, if f u.val = e.val then 1 else 0) := by
  show x (ix1 e) + ∑ j ∈ univ.filter (fun j => (spread N E wf).resultIdx? j idx = some (ix1 e)), y j = _
  rw [hx, zero_add, Finset.sum_filter, sum_idx1]
  have e1 : ∀ u : Fin E, (if (spread N E wf).resultIdx? (ix1 u) idx = some (ix1 e) then y (ix1 u) else 0)
      = (((if f u.val = e.val then 1 else 0 : ℕ) : ℝ) : EReal) := fun u => by
    have : (spread N E wf).resultIdx? (ix1 u) idx = some (ix1 e) ↔ f u.val = e.val := by
      rw [spread_lands, hf, toInt_ofNat (hlt _)]
      norm_cast
    by_cases h : f u.val = e.val
    · rw [if_pos (this.2 h), if_pos h, hy]; norm_cast
    · rw [if_neg (fun h' => h (this.1 h')), if_neg h]; norm_cast
  rw [Finset.sum_congr rfl fun u _ => e1 u, coe_sum]
  unfold num
  norm_cast

/-- The index of a pair of gray levels of a frame among the entries of all histograms. -/
def code (g : ℕ → ℕ → ℕ) (o n t : ℕ) : ℕ := n * 65536 + (g n (pos o t) * 256 + g n (pos o t + shift o))

/-- An index word is in range. -/
theorem code_lt {g : ℕ → ℕ → ℕ} (hg : ∀ n p, g n p < 256) (o n t : ℕ) (hn : n < 256) : code g o n t < 16777216 := by
  have := hg n (pos o t)
  have := hg n (pos o t + shift o)
  unfold code
  omega

/-- The indices of all pairs of all frames that are a given one: the count of that frame's pairs. -/
theorem sum_code {g : ℕ → ℕ → ℕ} (hg : ∀ n p, g n p < 256) (o : ℕ) (ho : o < 4) (E : ℕ) (hE : 256 * pairs o = E)
    (n : Fin 256) (a b : Fin 256) :
    (∑ u : Fin E, if code g o (u.val / pairs o) (u.val % pairs o) = (n.val * 256 + a.val) * 256 + b.val then 1 else 0)
      = cnt (g n.val) o a.val b.val := by
  have hp : 0 < pairs o := by unfold pairs; split <;> norm_num
  rw [Fin.sum_univ_tiles 256 (pairs o) hE, cnt_eq_sum_pairs (g n.val) o ho, Finset.sum_eq_single n]
  · rw [Finset.sum_range]
    refine Finset.sum_congr rfl fun t _ => ?_
    have e1 : (n.val * pairs o + t.val) / pairs o = n.val := by
      rw [Nat.mul_comm, Nat.mul_add_div hp, Nat.div_eq_of_lt t.isLt, Nat.add_zero]
    have e2 : (n.val * pairs o + t.val) % pairs o = t.val := by
      rw [Nat.mul_comm, Nat.mul_add_mod, Nat.mod_eq_of_lt t.isLt]
    rw [e1, e2]
    have h1 := hg n.val (pos o t.val)
    have h2 := hg n.val (pos o t.val + shift o)
    unfold code
    refine if_congr ?_ rfl rfl
    omega
  · intro n' _ hne
    refine Finset.sum_eq_zero fun t _ => if_neg ?_
    change ¬ code g o ((n'.val * pairs o + t.val) / pairs o) ((n'.val * pairs o + t.val) % pairs o) = _
    have e1 : (n'.val * pairs o + t.val) / pairs o = n'.val := by
      rw [Nat.mul_comm, Nat.mul_add_div hp, Nat.div_eq_of_lt t.isLt, Nat.add_zero]
    rw [e1]
    have h1 := hg n'.val (pos o ((n'.val * pairs o + t.val) % pairs o))
    have h2 := hg n'.val (pos o ((n'.val * pairs o + t.val) % pairs o) + shift o)
    have : n'.val ≠ n.val := fun h => hne (Fin.ext h)
    unfold code
    omega
  · intro h; exact absurd (Finset.mem_univ _) h

/-! ## The gray levels -/

variable {X : FVec Ideal S16x3x16x224x224 .f32}

/-- The gray level of the pixel in a row and a column. -/
theorem grayOf_at (n : Fin 256) (r c : Fin 224) : grayOf X n.val (r.val * 224 + c.val)
    = lev (X (ix5 ⟨n.val / 16, by omega⟩ 0 ⟨n.val % 16, by omega⟩ r c)) (X (ix5 ⟨n.val / 16, by omega⟩ 1 ⟨n.val % 16, by omega⟩ r c))
      (X (ix5 ⟨n.val / 16, by omega⟩ 2 ⟨n.val % 16, by omega⟩ r c)) := by
  have e1 : (⟨n.val / 16 % 16, by omega⟩ : Fin 16) = ⟨n.val / 16, by omega⟩ := Fin.ext (Nat.mod_eq_of_lt (by omega))
  have e2 : (⟨(r.val * 224 + c.val) / 224 % 224, by omega⟩ : Fin 224) = r := Fin.ext (by show _ % 224 = _; have := r.isLt; have := c.isLt; omega)
  have e3 : (⟨(r.val * 224 + c.val) % 224, by omega⟩ : Fin 224) = c := Fin.ext (by show _ % 224 = _; have := r.isLt; have := c.isLt; omega)
  unfold grayOf
  rw [e1, e2, e3]

/-- The reference's gray level of a pixel. -/
theorem gray_ref (hX : ∀ i, Unit01 (X i)) (n : Fin 256) (r c : Fin 224) :
    val_main_v7 (F := Ideal) X (ix3 n r c) = BitVec.ofNat 32 (grayOf X n.val (r.val * 224 + c.val)) := by
  pointwise [val_main_v7, val_main_v6, val_main_v5, val_main_v4, val_main_v3, val_main_v2, val_main_v1, val_main_v0, val_main_cst, val_main_cst_0, val_main_cst_1]
  rw [Fin.sum_univ_three, grayOf_at]
  exact gray_floor (hX _) (hX _) (hX _)

/-- An index word put together. -/
theorem word_code (n x y : ℕ) :
    IntOp.addi (IntOp.muli (BitVec.ofNat 32 n) 65536#32) (IntOp.addi (IntOp.muli (BitVec.ofNat 32 x) 256#32) (BitVec.ofNat 32 y))
      = BitVec.ofNat 32 (n * 65536 + (x * 256 + y)) := by
  rw [BitVec.ofNat_add, BitVec.ofNat_add, BitVec.ofNat_mul, BitVec.ofNat_mul]
  rfl

/-- The index word of a pair of pixels in the reference, from the pair's places. -/
theorem word_gray (hX : ∀ i, Unit01 (X i)) (o t : ℕ) (n : Fin 256) (r c r' c' : Fin 224) (h : r.val * 224 + c.val = pos o t)
    (h' : r'.val * 224 + c'.val = pos o t + shift o) :
    IntOp.addi (IntOp.muli (BitVec.ofNat 32 n.val) 65536#32)
      (IntOp.addi (IntOp.muli (val_main_v7 (F := Ideal) X (ix3 n r c)) 256#32) (val_main_v7 (F := Ideal) X (ix3 n r' c')))
      = BitVec.ofNat 32 (code (grayOf X) o n.val t) := by
  rw [gray_ref hX, gray_ref hX, word_code, h, h']
  rfl

/-- The reference's index words at the first offset. -/
theorem word_0 (hX : ∀ i, Unit01 (X i)) (n : Fin 256) (t : Fin 49952) :
    val_main_v33 (F := Ideal) X (ix2 n t) = BitVec.ofNat 32 (code (grayOf X) 0 n.val t.val) := by
  pointwise [val_main_v33, val_main_v32, val_main_v31, val_main_v30, val_main_v29, val_main_v28, val_main_v27, val_main_v26, val_main_c_5, val_main_v25, val_main_v24, val_main_c_4, val_main_v23, val_main_v22]
  exact word_gray hX 0 t.val n _ _ _ _ (by simp only [pos]) (by simp only [pos, shift]; omega)

/-- The reference's index words at the second offset. -/
theorem word_2 (hX : ∀ i, Unit01 (X i)) (n : Fin 256) (t : Fin 49729) :
    val_main_v58 (F := Ideal) X (ix2 n t) = BitVec.ofNat 32 (code (grayOf X) 2 n.val t.val) := by
  pointwise [val_main_v58, val_main_v57, val_main_v56, val_main_v55, val_main_v54, val_main_v53, val_main_v52, val_main_v51, val_main_c_10, val_main_v25, val_main_v24, val_main_c_4, val_main_v23, val_main_v22]
  exact word_gray hX 2 t.val n _ _ _ _ (by simp only [pos]) (by simp only [pos, shift]; omega)

/-- The reference's index words at the third offset. -/
theorem word_1 (hX : ∀ i, Unit01 (X i)) (n : Fin 256) (t : Fin 49952) :
    val_main_v83 (F := Ideal) X (ix2 n t) = BitVec.ofNat 32 (code (grayOf X) 1 n.val t.val) := by
  pointwise [val_main_v83, val_main_v82, val_main_v81, val_main_v80, val_main_v79, val_main_v78, val_main_v77, val_main_v76, val_main_c_15, val_main_v25, val_main_v24, val_main_c_4, val_main_v23, val_main_v22]
  exact word_gray hX 1 t.val n _ _ _ _ (by simp only [pos]; omega) (by simp only [pos, shift]; omega)

/-- The reference's index words at the fourth offset. -/
theorem word_3 (hX : ∀ i, Unit01 (X i)) (n : Fin 256) (t : Fin 49729) :
    val_main_v108 (F := Ideal) X (ix2 n t) = BitVec.ofNat 32 (code (grayOf X) 3 n.val t.val) := by
  pointwise [val_main_v108, val_main_v107, val_main_v106, val_main_v105, val_main_v104, val_main_v103, val_main_v102, val_main_v101, val_main_c_20, val_main_v25, val_main_v24, val_main_c_4, val_main_v23, val_main_v22]
  exact word_gray hX 3 t.val n _ _ _ _ (by simp only [pos]; omega) (by simp only [pos, shift]; omega)

/-- The histograms of the reference: entry `(a, b)` of frame `n` counts the pairs of gray levels `a` and `b`. -/
theorem count_hist (hX : ∀ i, Unit01 (X i)) (o : ℕ) (ho : o < 4) (E : ℕ) (hE : 256 * pairs o = E) (wf)
    (x : FVec Ideal ⟨1, ![16777216]⟩ .f32) (y : FVec Ideal ⟨1, ![E]⟩ .f32) (idx : IVec ⟨2, ![E, 1]⟩ 32)
    (hx : ∀ i, x (ix1 i) = 0) (hy : ∀ i, y (ix1 i) = 1)
    (hf : ∀ u : Fin E, idx (ix2 u 0) = BitVec.ofNat 32 (code (grayOf X) o (u.val / pairs o) (u.val % pairs o)))
    (n a b : Fin 256) (e : Fin 16777216) (he : e.val = (n.val * 256 + a.val) * 256 + b.val) :
    Host.scatterAdd (F := Ideal) (spread 16777216 E wf) x idx y (ix1 e) = ((histOf (grayOf X n.val) o a b : ℝ) : EReal) := by
  have hg := grayOf_lt hX
  have hp : 0 < pairs o := by unfold pairs; split <;> norm_num
  rw [spread_count wf x y idx hx hy (fun u => code (grayOf X) o (u / pairs o) (u % pairs o)) hf
      (fun u => lt_trans (code_lt hg o _ _ ((Nat.div_lt_iff_lt_mul hp).2 (by rw [hE]; exact u.isLt))) (by norm_num)), he,
    sum_code hg o ho E hE n a b]
  rfl

/-- The reference's histograms at the first offset. -/
theorem hist_0 (hX : ∀ i, Unit01 (X i)) (n a b : Fin 256) :
    val_main_v39 (F := Ideal) X (ix3 n a b) = ((histOf (grayOf X n.val) 0 a b : ℝ) : EReal) := by
  pointwise [val_main_v39]
  refine count_hist hX 0 (by norm_num) 12787712 rfl _ (val_main_v36 (F := Ideal)) (val_main_v35 (F := Ideal))
    (val_main_v37 (F := Ideal) X) (fun i => ?_) (fun i => ?_) (fun u => ?_) n a b _
    (by change n.val * 65536 + a.val * 256 + b.val = _; ring)
  · pointwise [val_main_v36, val_main_cst_7]
  · pointwise [val_main_v35, val_main_cst_6]
  · pointwise [val_main_v37, val_main_v34]
    exact word_0 hX _ _

/-- The reference's histograms at the second offset. -/
theorem hist_2 (hX : ∀ i, Unit01 (X i)) (n a b : Fin 256) :
    val_main_v64 (F := Ideal) X (ix3 n a b) = ((histOf (grayOf X n.val) 2 a b : ℝ) : EReal) := by
  pointwise [val_main_v64]
  refine count_hist hX 2 (by norm_num) 12730624 rfl _ (val_main_v61 (F := Ideal)) (val_main_v60 (F := Ideal))
    (val_main_v62 (F := Ideal) X) (fun i => ?_) (fun i => ?_) (fun u => ?_) n a b _
    (by change n.val * 65536 + a.val * 256 + b.val = _; ring)
  · pointwise [val_main_v61, val_main_cst_12]
  · pointwise [val_main_v60, val_main_cst_11]
  · pointwise [val_main_v62, val_main_v59]
    exact word_2 hX _ _

/-- The reference's histograms at the third offset. -/
theorem hist_1 (hX : ∀ i, Unit01 (X i)) (n a b : Fin 256) :
    val_main_v89 (F := Ideal) X (ix3 n a b) = ((histOf (grayOf X n.val) 1 a b : ℝ) : EReal) := by
  pointwise [val_main_v89]
  refine count_hist hX 1 (by norm_num) 12787712 rfl _ (val_main_v86 (F := Ideal)) (val_main_v85 (F := Ideal))
    (val_main_v87 (F := Ideal) X) (fun i => ?_) (fun i => ?_) (fun u => ?_) n a b _
    (by change n.val * 65536 + a.val * 256 + b.val = _; ring)
  · pointwise [val_main_v86, val_main_cst_17]
  · pointwise [val_main_v85, val_main_cst_16]
  · pointwise [val_main_v87, val_main_v84]
    exact word_1 hX _ _

/-- The reference's histograms at the fourth offset. -/
theorem hist_3 (hX : ∀ i, Unit01 (X i)) (n a b : Fin 256) :
    val_main_v114 (F := Ideal) X (ix3 n a b) = ((histOf (grayOf X n.val) 3 a b : ℝ) : EReal) := by
  pointwise [val_main_v114]
  refine count_hist hX 3 (by norm_num) 12730624 rfl _ (val_main_v111 (F := Ideal)) (val_main_v110 (F := Ideal))
    (val_main_v112 (F := Ideal) X) (fun i => ?_) (fun i => ?_) (fun u => ?_) n a b _
    (by change n.val * 65536 + a.val * 256 + b.val = _; ring)
  · pointwise [val_main_v111, val_main_cst_22]
  · pointwise [val_main_v110, val_main_cst_21]
  · pointwise [val_main_v112, val_main_v109]
    exact word_3 hX _ _

end Cert.Glcm
-- ==== Proof.RefFeat.lean ====
module

public import proofs.«01_k».proof.Proof.RefHist

@[expose] public section

set_option maxRecDepth 16384

noncomputable section

namespace Cert.Glcm

open Idealize.ShloMosaic Idealize.ShloMosaic.TcCoe
open Finset
open Cert.ReferenceIdeal Cert.ReferenceIdeal.Gen Cert.ReferenceIdeal.Read

/-! ## The weights -/

/-- The difference of two gray levels, in the reference's words. -/
theorem ref_diff (a b : Fin 256) : val_main_v15 (F := Ideal) (ix2 a b) = ((dif a b : ℝ) : EReal) := by
  pointwise [val_main_v15, val_main_v14, val_main_v13, val_main_v12, val_main_v11, val_main_v10]
  rw [sitofp_num _ (by omega), sitofp_num _ (by omega)]
  unfold num dif
  rw [← EReal.coe_sub]

/-- The reference's weight for the contrast. -/
theorem ref_con (a b : Fin 256) : val_main_v16 (F := Ideal) (ix2 a b) = ((wCon a b : ℝ) : EReal) := by
  pointwise [val_main_v16]
  rw [ref_diff, ← EReal.coe_mul]
  rfl

/-- The reference's weight for the dissimilarity. -/
theorem ref_dis (a b : Fin 256) : val_main_v17 (F := Ideal) (ix2 a b) = ((wDis a b : ℝ) : EReal) := by
  pointwise [val_main_v17]
  rw [ref_diff]
  exact abs_coe (dif a b)

/-- The reference's weight for the homogeneity. -/
theorem ref_hom (a b : Fin 256) : val_main_v21 (F := Ideal) (ix2 a b) = ((wHom a b : ℝ) : EReal) := by
  pointwise [val_main_v21, val_main_v20, val_main_v19, val_main_v18, val_main_cst_2, val_main_cst_3]
  rw [ref_con, show (1 : EReal) = ((1 : ℝ) : EReal) by norm_cast, ← EReal.coe_add,
    div_real _ (by have : 0 ≤ wCon a b := mul_self_nonneg _
                   linarith)]
  rfl

/-! ## The normed matrices -/

/-- A symmetric matrix a frame, divided by the sum of its entries. -/
def normed (H : FVec Ideal S256x256x256 .f32) : FVec Ideal S256x256x256 .f32 :=
  Host.divf (addf H (transpose S256x256x256 [0, 2, 1] H transposes_S256x256x256_S256x256x256_0_2_1))
    (broadcastInDim S256x256x256 ![0, 1, 2] bcast_S256x1x1_S256x256x256_0_1_2
      (broadcastInDim S256x1x1 ![0] bcast_S256_S256x1x1_0
        (Host.reduceAdd (addf H (transpose S256x256x256 [0, 2, 1] H transposes_S256x256x256_S256x256x256_0_2_1))
          (val_main_cst_8 (F := Ideal)) reducesTo_S256x256x256_S256_d1_2 h_S_)))

variable {X : FVec Ideal S16x3x16x224x224 .f32}

/-- The normed matrix of counts. -/
theorem normed_apply (hX : ∀ i, Unit01 (X i)) (o : ℕ) (ho : o < 4) (H : FVec Ideal S256x256x256 .f32)
    (hH : ∀ n a b : Fin 256, H (ix3 n a b) = ((histOf (grayOf X n.val) o a b : ℝ) : EReal)) (n a b : Fin 256) :
    normed H (ix3 n a b) = ((normedOf (histOf (grayOf X n.val)) o a b : ℝ) : EReal) := by
  pointwise [normed, val_main_cst_8]
  simp only [hH, ← EReal.coe_add, coe_sum]
  have hs : ∑ a : Fin 256, ∑ b : Fin 256, (histOf (grayOf X n.val) o a b + histOf (grayOf X n.val) o b a)
      = 2 * pairsR o := by
    rw [sum_sym]
    congr 1
    unfold histOf pairsR
    rw [← sum_cnt (grayOf X n.val) (grayOf_lt hX n.val) o ho]
    push_cast
    rfl
  have hp : (0 : ℝ) < pairsR o := by
    unfold pairsR
    interval_cases o <;> norm_num [pairs]
  rw [hs, div_real _ (by linarith)]
  rfl

/-! ## The sums over a normed matrix -/

/-- A normed matrix times a weight, summed. -/
theorem dot_apply (P : FVec Ideal S256x256x256 .f32) (W : FVec Ideal S256x256 .f32) (p : Fin 256 → Fin 256 → Fin 256 → ℝ)
    (w : Fin 256 → Fin 256 → ℝ) (hP : ∀ n a b, P (ix3 n a b) = ((p n a b : ℝ) : EReal))
    (hW : ∀ a b, W (ix2 a b) = ((w a b : ℝ) : EReal)) (n : Fin 256) :
    Host.dotGeneral (F := Ideal) (φ₁ := .f32) (φ₂ := .f32) dot_S256x256x256_S256x256_S256_12_01_0_n_n_n none P W (ix1 n)
      = ((∑ a : Fin 256, ∑ b : Fin 256, p n a b * w a b : ℝ) : EReal) := by
  pointwise
  simp only [hP, hW, ← EReal.coe_mul, coe_sum]

/-- The squares of a normed matrix, summed. -/
theorem square_apply (P : FVec Ideal S256x256x256 .f32) (p : Fin 256 → Fin 256 → Fin 256 → ℝ)
    (hP : ∀ n a b, P (ix3 n a b) = ((p n a b : ℝ) : EReal)) (n : Fin 256) :
    Host.reduceAdd (F := Ideal) (mulf P P) (constant (F := Ideal) S_ .f32 0#32) reducesTo_S256x256x256_S256_d1_2 h_S_ (ix1 n)
      = ((∑ a : Fin 256, ∑ b : Fin 256, p n a b * p n a b : ℝ) : EReal) := by
  pointwise
  simp only [hP, ← EReal.coe_mul, coe_sum]

/-- Four rows, summed and divided by four. -/
def quarterSum (r0 r1 r2 r3 : FVec Ideal S256 .f32) : FVec Ideal S256 .f32 :=
  Host.divf (Host.reduceAdd (concatenate S4x256 0
      [⟨S1x256, broadcastInDim S1x256 ![1] bcast_S256_S1x256_1 r0⟩, ⟨S1x256, broadcastInDim S1x256 ![1] bcast_S256_S1x256_1 r1⟩,
        ⟨S1x256, broadcastInDim S1x256 ![1] bcast_S256_S1x256_1 r2⟩, ⟨S1x256, broadcastInDim S1x256 ![1] bcast_S256_S1x256_1 r3⟩]
      concatenates_S1x256_S1x256_S1x256_S1x256_S4x256_d0) (constant (F := Ideal) S_ .f32 0#32) reducesTo_S4x256_S256_d0 h_S_)
    (broadcastInDim S256 ![] bcast_S_S256 (constant (F := Ideal) S_ .f32 0x40800000#32))

/-- The mean of four numbers. -/
theorem quarterSum_apply (r0 r1 r2 r3 : FVec Ideal S256 .f32) (n : Fin 256) (x0 x1 x2 x3 : ℝ) (h0 : r0 (ix1 n) = (x0 : EReal))
    (h1 : r1 (ix1 n) = (x1 : EReal)) (h2 : r2 (ix1 n) = (x2 : EReal)) (h3 : r3 (ix1 n) = (x3 : EReal)) :
    quarterSum r0 r1 r2 r3 (ix1 n) = (((x0 + x1 + x2 + x3) / 4 : ℝ) : EReal) := by
  pointwise [quarterSum]
  rw [Fin.sum_univ_four]
  simp [h0, h1, h2, h3, -EReal.coe_add]
  rw [ofBits_four, ← EReal.coe_add, ← EReal.coe_add, ← EReal.coe_add, div_real _ (by norm_num)]

/-- The four normed matrices of the reference. -/
theorem normed_0 (hX : ∀ i, Unit01 (X i)) (n a b : Fin 256) :
    val_main_v45 (F := Ideal) X (ix3 n a b) = ((normedOf (histOf (grayOf X n.val)) 0 a b : ℝ) : EReal) :=
  normed_apply hX 0 (by norm_num) (val_main_v39 (F := Ideal) X) (hist_0 hX) n a b

/-- Likewise at the second offset. -/
theorem normed_2 (hX : ∀ i, Unit01 (X i)) (n a b : Fin 256) :
    val_main_v70 (F := Ideal) X (ix3 n a b) = ((normedOf (histOf (grayOf X n.val)) 2 a b : ℝ) : EReal) :=
  normed_apply hX 2 (by norm_num) (val_main_v64 (F := Ideal) X) (hist_2 hX) n a b

/-- Likewise at the third offset. -/
theorem normed_1 (hX : ∀ i, Unit01 (X i)) (n a b : Fin 256) :
    val_main_v95 (F := Ideal) X (ix3 n a b) = ((normedOf (histOf (grayOf X n.val)) 1 a b : ℝ) : EReal) :=
  normed_apply hX 1 (by norm_num) (val_main_v89 (F := Ideal) X) (hist_1 hX) n a b

/-- Likewise at the fourth offset. -/
theorem normed_3 (hX : ∀ i, Unit01 (X i)) (n a b : Fin 256) :
    val_main_v120 (F := Ideal) X (ix3 n a b) = ((normedOf (histOf (grayOf X n.val)) 3 a b : ℝ) : EReal) :=
  normed_apply hX 3 (by norm_num) (val_main_v114 (F := Ideal) X) (hist_3 hX) n a b

/-- The mean of a weight over the four normed matrices. -/
theorem mean_apply (hX : ∀ i, Unit01 (X i)) (W : FVec Ideal S256x256 .f32) (w : Fin 256 → Fin 256 → ℝ)
    (hw : ∀ a b, w a b = w b a) (hW : ∀ a b, W (ix2 a b) = ((w a b : ℝ) : EReal)) (n : Fin 256) :
    quarterSum (Host.dotGeneral (F := Ideal) (φ₁ := .f32) (φ₂ := .f32) dot_S256x256x256_S256x256_S256_12_01_0_n_n_n none (val_main_v45 (F := Ideal) X) W)
      (Host.dotGeneral (F := Ideal) (φ₁ := .f32) (φ₂ := .f32) dot_S256x256x256_S256x256_S256_12_01_0_n_n_n none (val_main_v70 (F := Ideal) X) W)
      (Host.dotGeneral (F := Ideal) (φ₁ := .f32) (φ₂ := .f32) dot_S256x256x256_S256x256_S256_12_01_0_n_n_n none (val_main_v95 (F := Ideal) X) W)
      (Host.dotGeneral (F := Ideal) (φ₁ := .f32) (φ₂ := .f32) dot_S256x256x256_S256x256_S256_12_01_0_n_n_n none (val_main_v120 (F := Ideal) X) W) (ix1 n)
      = ((meanOf (histOf (grayOf X n.val)) w : ℝ) : EReal) := by
  rw [meanOf_eq _ w hw]
  exact quarterSum_apply _ _ _ _ n _ _ _ _
    (dot_apply _ W (fun n => normedOf (histOf (grayOf X n.val)) 0) w (normed_0 hX) hW n)
    (dot_apply _ W (fun n => normedOf (histOf (grayOf X n.val)) 2) w (normed_2 hX) hW n)
    (dot_apply _ W (fun n => normedOf (histOf (grayOf X n.val)) 1) w (normed_1 hX) hW n)
    (dot_apply _ W (fun n => normedOf (histOf (grayOf X n.val)) 3) w (normed_3 hX) hW n)

/-- The reference's contrast. -/
theorem ref_contrast (hX : ∀ i, Unit01 (X i)) (n : Fin 256) :
    val_main_v133 (F := Ideal) X (ix1 n) = ((meanOf (histOf (grayOf X n.val)) wCon : ℝ) : EReal) :=
  mean_apply hX (val_main_v16 (F := Ideal)) wCon wCon_symm ref_con n

/-- The reference's dissimilarity. -/
theorem ref_dissimilarity (hX : ∀ i, Unit01 (X i)) (n : Fin 256) :
    val_main_v141 (F := Ideal) X (ix1 n) = ((meanOf (histOf (grayOf X n.val)) wDis : ℝ) : EReal) :=
  mean_apply hX (val_main_v17 (F := Ideal)) wDis wDis_symm ref_dis n

/-- The reference's homogeneity. -/
theorem ref_homogeneity (hX : ∀ i, Unit01 (X i)) (n : Fin 256) :
    val_main_v149 (F := Ideal) X (ix1 n) = ((meanOf (histOf (grayOf X n.val)) wHom : ℝ) : EReal) :=
  mean_apply hX (val_main_v21 (F := Ideal)) wHom wHom_symm ref_hom n

/-- The reference's angular second moment. -/
theorem ref_moment (hX : ∀ i, Unit01 (X i)) (n : Fin 256) :
    val_main_v157 (F := Ideal) X (ix1 n) = ((asmOf (histOf (grayOf X n.val)) : ℝ) : EReal) := by
  rw [asmOf_eq]
  exact quarterSum_apply (val_main_v50 (F := Ideal) X) (val_main_v75 (F := Ideal) X) (val_main_v100 (F := Ideal) X)
    (val_main_v125 (F := Ideal) X) n _ _ _ _
    (square_apply _ (fun n => normedOf (histOf (grayOf X n.val)) 0) (normed_0 hX) n)
    (square_apply _ (fun n => normedOf (histOf (grayOf X n.val)) 2) (normed_2 hX) n)
    (square_apply _ (fun n => normedOf (histOf (grayOf X n.val)) 1) (normed_1 hX) n)
    (square_apply _ (fun n => normedOf (histOf (grayOf X n.val)) 3) (normed_3 hX) n)

/-- The reference's energy. -/
theorem ref_energy (hX : ∀ i, Unit01 (X i)) (n : Fin 256) :
    val_main_v158 (F := Ideal) X (ix1 n) = ((Real.sqrt (asmOf (histOf (grayOf X n.val))) : ℝ) : EReal) := by
  have e : val_main_v158 (F := Ideal) X (ix1 n) = Ideal.sqrt (val_main_v157 (F := Ideal) X (ix1 n)) := rfl
  rw [e, ref_moment hX, sqrt_real (asmOf_nonneg _)]

/-! ## The standard deviation -/

/-- A gray level of the reference as a number. -/
theorem ref_gray (hX : ∀ i, Unit01 (X i)) (n : Fin 256) (y x : Fin 224) :
    val_main_v8 (F := Ideal) X (ix3 n y x) = ((grayOf X n.val (y.val * 224 + x.val) : ℝ) : EReal) := by
  pointwise [val_main_v8]
  rw [gray_ref hX, sitofp_num _ (lt_trans (grayOf_lt hX _ _) (by norm_num))]
  rfl

/-- A sum over a frame's rows and columns is a sum over its pixels. -/
theorem sum_frame (f : ℕ → ℝ) : ∑ y : Fin 224, ∑ x : Fin 224, f (y.val * 224 + x.val) = sumOver f := by
  unfold sumOver
  rw [Finset.sum_range (n := 50176), Fin.sum_univ_tiles 224 224 rfl]

/-- The reference's mean gray level. -/
theorem ref_mean (hX : ∀ i, Unit01 (X i)) (n : Fin 256) (y x : Fin 224) :
    val_main_call0_call0_v4 (F := Ideal) X (ix3 n y x)
      = ((sumOver (fun p => (grayOf X n.val p : ℝ)) / 50176 : ℝ) : EReal) := by
  pointwise [val_main_call0_call0_v4, val_main_call0_call0_v3, val_main_call0_call0_v2, val_main_call0_call0_v1,
    val_main_call0_call0_v0, val_main_call0_call0_cst, val_main_call0_call0_cst_0]
  simp only [ref_gray hX, coe_sum]
  rw [sum_frame (fun p => (grayOf X n.val p : ℝ)), ofBits_50176, div_real _ (by norm_num)]

/-- The number of pixels, from which nothing is taken. -/
theorem ref_count : val_main_call0_call0_v8 (F := Ideal) ix0 = ((50176 : ℝ) : EReal) := by
  pointwise [val_main_call0_call0_v8, val_main_call0_call0_v7, val_main_call0_call0_cst_1, val_main_c]
  rw [ofBits_50176, show (0#32 : BitVec 32) = BitVec.ofNat 32 0 from rfl, sitofp_num _ (by norm_num)]
  unfold num
  rw [← EReal.coe_sub]
  norm_num

/-- The reference's variance. -/
theorem ref_variance (hX : ∀ i, Unit01 (X i)) (n : Fin 256) :
    val_main_call0_call0_v11 (F := Ideal) X (ix1 n) = ((varOf (grayOf X n.val) : ℝ) : EReal) := by
  pointwise [val_main_call0_call0_v11, val_main_call0_call0_v10, val_main_call0_call0_v9, val_main_call0_call0_v6,
    val_main_call0_call0_v5, val_main_call0_call0_cst_2]
  simp only [ref_gray hX, ref_mean hX, ← EReal.coe_sub, ← EReal.coe_mul, coe_sum]
  rw [sum_frame (fun p => ((grayOf X n.val p : ℝ) - (sumOver fun p => (grayOf X n.val p : ℝ)) / 50176)
      * ((grayOf X n.val p : ℝ) - (sumOver fun p => (grayOf X n.val p : ℝ)) / 50176)), ref_count, div_real _ (by norm_num), varOf_eq]

/-- The reference's standard deviation. -/
theorem ref_deviation (hX : ∀ i, Unit01 (X i)) (n : Fin 256) :
    val_main_v9 (F := Ideal) X (ix1 n) = ((Real.sqrt (varOf (grayOf X n.val)) : ℝ) : EReal) := by
  pointwise [val_main_v9, val_main_call0_v0, val_main_call0_call0_v12, val_main_call0_call0_cst_3]
  rw [ref_count, if_pos (by exact_mod_cast (by norm_num : (0 : ℝ) < 50176)), ref_variance hX, sqrt_real (varOf_nonneg _)]

end Cert.Glcm
-- ==== Proof.RefValue.lean ====
module

public import proofs.«01_k».proof.Proof.RefFeat
public import proofs.«01_k».proof.Proof.Gen.Pre_unit_pixels

@[expose] public section

set_option maxRecDepth 16384

noncomputable section

namespace Cert.Glcm

open Idealize.ShloMosaic Idealize.ShloMosaic.TcCoe
open Cert.ReferenceIdeal Cert.ReferenceIdeal.Gen Cert.ReferenceIdeal.Read

variable {X : FVec Ideal S16x3x16x224x224 .f32}

/-- The six features of a frame, as the reference lays them side by side. -/
theorem ref_row (hX : ∀ i, Unit01 (X i)) (n : Fin 256) (k : Fin 6) :
    val_main_v165 (F := Ideal) X (ix2 n k) = ((feature (grayOf X n.val) k.val : ℝ) : EReal) := by
  pointwise [val_main_v165, val_main_v159, val_main_v160, val_main_v161, val_main_v162, val_main_v163, val_main_v164]
  simp only [ref_deviation hX, ref_contrast hX, ref_dissimilarity hX, ref_homogeneity hX, ref_moment hX, ref_energy hX]
  fin_cases k <;> simp [feature]

/-- The reference's result: the features of every frame. -/
theorem reference_answer (hX : ∀ i, Unit01 (X i)) : val_main_v166 (F := Ideal) X = answer X := by
  funext i
  obtain ⟨b, j, rfl⟩ : ∃ b j, i = ix2 b j := ⟨i 0, i 1, (ix2_eta i).symm⟩
  have hj : j.val / 6 < 16 := by have : j.val < 96 := j.isLt; omega
  have hb : b.val < 16 := b.isLt
  have e : val_main_v166 (F := Ideal) X (ix2 b j)
      = val_main_v165 (F := Ideal) X (ix2 ⟨b.val * 16 + j.val / 6, by omega⟩ ⟨j.val % 6, Nat.mod_lt _ (by norm_num)⟩) := by
    pointwise [val_main_v166]
  rw [e, ref_row hX]
  rfl

/-- A condition whose word is one holds. -/
theorem of_word {p : Prop} [Decidable p] (h : BitVec.ofBool (decide p) = 1#1) : p := by
  by_contra n
  rw [decide_eq_false n] at h
  exact absurd h (by decide)

/-- The precondition says that every pixel is in the unit interval. -/
theorem unit_of_pre (h : Cert.Pre_unit_pixels.fn (F := Ideal) X = fun _ => 1#1) (i) :
    Unit01 (X i) := by
  have hi := congrFun h i
  obtain ⟨a, b, c, d, e, rfl⟩ : ∃ a b c d e, i = ix5 a b c d e := ⟨i 0, i 1, i 2, i 3, i 4, (ix5_eta i).symm⟩
  pointwise [Cert.Pre_unit_pixels.fn] at hi
  have h2 := IntOp.andi_eq_one.1 hi
  exact ⟨of_word h2.1, of_word h2.2⟩

/-- The reference's run: its result is the features of every frame, its argument is as it was. -/
theorem reference_run (m : (ℓ : Loc nD τ sig) → Buf (Elt Ideal) ℓ) (g : Dev nD → PrngReg)
    (hX : ∀ (c : Dev nD) i, Unit01 (m ((c.tc : Thread nD τ).loc main_arg0) i)) :
    θ_run defs (onTc (τ := τ) (main (F := Ideal))) ⟨m, fun _ => 0, g⟩ (fun r => ∀ c : Dev nD,
      r.2.mem ((c.tc : Thread nD τ).loc main_v166) = answer (m ((c.tc : Thread nD τ).loc main_arg0))
      ∧ r.2.mem ((c.tc : Thread nD τ).loc main_arg0) = m ((c.tc : Thread nD τ).loc main_arg0)) := by
  refine (θ_run defs _ _).mono (fun r h c => ⟨?_, (h c).2⟩) (Cert.ReferenceIdeal.Value.run m g)
  exact (h c).1.trans ((val_main_v166_eq _).trans (reference_answer (hX c)))

end Cert.Glcm
-- ==== Proof.lean ====
/-
  The certificate's claim, put together: the frames of the three programs are the generated runs, the preserved
  constants are the rule's statement at each of the four names, and the value claim is the two programs' runs
  (`Proof/KernelValue.lean`, `Proof/RefValue.lean`), each of which ends with the same features of every frame.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_unit_pixels
public import proofs.«01_k».proof.Proof.RefValue

@[expose] public section

noncomputable section

namespace Cert.Proof

open Idealize.ShloMosaic Idealize.SL.Sem

/-- The reference runs, leaves its argument as it was, and declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The four named constants stand for the kernel's literals. -/
theorem preserves : Cert.preserves_Kernel_KernelIdeal :=
  ⟨IdealRules.named_const.statement Cert.KernelIdeal.κ "inv_n" .f32 0x37A7EEF2#32 ((1 / 49952 : ℝ) : EReal) rfl,
    IdealRules.named_const.statement Cert.KernelIdeal.κ "inv_d" .f32 0x37A8AFBB#32 ((1 / 49729 : ℝ) : EReal) rfl,
    IdealRules.named_const.statement Cert.KernelIdeal.κ "inv_n2" .f32 0x2FDC533D#32 ((1 / 2495202304 : ℝ) : EReal) rfl,
    IdealRules.named_const.statement Cert.KernelIdeal.κ "inv_d2" .f32 0x2FDE4E3B#32 ((1 / 2472973441 : ℝ) : EReal) rfl⟩

/-- From equal arguments with every pixel in the unit interval, the kernel and the reference end with equal results. -/
theorem algebraic : Cert.algebraic_KernelIdeal_ReferenceIdeal_pre_unit_pixels := by
  intro m g m' g' hpre hagree
  have hX : ∀ (c : Dev Cert.KernelIdeal.nD) i, Glcm.Unit01 (m ((c.tc : Thread Cert.KernelIdeal.nD Cert.KernelIdeal.τ).loc Cert.KernelIdeal.main_arg0) i) :=
    fun c i => Glcm.unit_of_pre (hpre c) i
  refine ⟨fun c => Glcm.answer (m ((c.tc : Thread Cert.KernelIdeal.nD Cert.KernelIdeal.τ).loc Cert.KernelIdeal.main_arg0)),
    Glcm.kernel_run m g hX, ?_⟩
  refine (θ_run Cert.ReferenceIdeal.defs _ _).mono (fun r h c => ⟨(h c).1.trans ?_, (h c).2⟩)
    (Glcm.reference_run m' g' fun c i => by rw [hagree c]; exact hX c i)
  rw [hagree c]

/-- Everything that the certificate claims. -/
theorem claim : Cert.Claim :=
  ⟨Cert.Kernel.Gen.facts, Cert.KernelIdeal.Gen.facts, Cert.ReferenceIdeal.Gen.facts, Cert.Pre_unit_pixels.Gen.facts,
    fun m g _ => Cert.Kernel.Gen.frame m g, fun m g _ => Cert.KernelIdeal.Gen.frame m g,
    fun m g _ => Cert.KernelIdeal.Gen.frame m g, fun m g _ => reference_frame m g, fun m g _ => reference_frame m g,
    preserves, algebraic⟩

end Cert.Proof

end
